-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 512, 8, 64]⟩ ⟨4, ![8, 1024, 8, 64]⟩ (Layout.meshBlock [2, 2, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 512, 8, 64]⟩ ⟨4, ![8, 1024, 8, 64]⟩ (Layout.meshBlock [2, 2, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S8x1x8x64 : Shape := ⟨4, ![8, 1, 8, 64]⟩
abbrev S8x512x8x64 : Shape := ⟨4, ![8, 512, 8, 64]⟩
abbrev S_ : Shape := ⟨0, ![]⟩

class Facts : Prop where
  bitsLt_bf16_f32 : FTy.bits .bf16 < FTy.bits .f32
  bcast_S_S8x1x8x64 : S_.BroadcastsInDim S8x1x8x64 (![] : Fin 0 → Fin S8x1x8x64.rank)
  bcast_S_S8x512x8x64 : S_.BroadcastsInDim S8x512x8x64 (![] : Fin 0 → Fin S8x512x8x64.rank)

variable [Facts]

def fn {F : FTy → Type} [FloatOps F] (main_arg0 : FVec F S8x1x8x64 .bf16) (main_arg1 : FVec F S8x512x8x64 .bf16) (main_arg2 : FVec F S8x512x8x64 .bf16) : IVec S8x1x8x64 1 × IVec S8x512x8x64 1 :=
  let main_v0 : FVec F S8x1x8x64 .f32 := (extf .f32 · bitsLt_bf16_f32) main_arg0
  let main_v1 : FVec F S8x1x8x64 .f32 := Host.absf main_v0
  let main_cst : FVec F S_ .f32 := constant S_ .f32 0x7F800000#32
  let main_v2 : FVec F S8x1x8x64 .f32 := broadcastInDim S8x1x8x64 ![] bcast_S_S8x1x8x64 main_cst
  let main_v3 : IVec S8x1x8x64 1 := cmpf .olt main_v1 main_v2
  let main_v4 : FVec F S8x512x8x64 .f32 := (extf .f32 · bitsLt_bf16_f32) main_arg1
  let main_v5 : FVec F S8x512x8x64 .f32 := Host.absf main_v4
  let main_cst_0 : FVec F S_ .f32 := constant S_ .f32 0x7F800000#32
  let main_v6 : FVec F S8x512x8x64 .f32 := broadcastInDim S8x512x8x64 ![] bcast_S_S8x512x8x64 main_cst_0
  let main_v7 : IVec S8x512x8x64 1 := cmpf .olt main_v5 main_v6
  (main_v3, main_v7)
-- ==== Pre_finite_scores_ReferenceIdeal.lean ====
abbrev S8x1x8x64 : Shape := ⟨4, ![8, 1, 8, 64]⟩
abbrev S8x1024x8x64 : Shape := ⟨4, ![8, 1024, 8, 64]⟩
abbrev S_ : Shape := ⟨0, ![]⟩

class Facts : Prop where
  bitsLt_bf16_f32 : FTy.bits .bf16 < FTy.bits .f32
  bcast_S_S8x1x8x64 : S_.BroadcastsInDim S8x1x8x64 (![] : Fin 0 → Fin S8x1x8x64.rank)
  bcast_S_S8x1024x8x64 : S_.BroadcastsInDim S8x1024x8x64 (![] : Fin 0 → Fin S8x1024x8x64.rank)

variable [Facts]

def fn {F : FTy → Type} [FloatOps F] (main_arg0 : FVec F S8x1x8x64 .bf16) (main_arg1 : FVec F S8x1024x8x64 .bf16) (main_arg2 : FVec F S8x1024x8x64 .bf16) : IVec S8x1x8x64 1 × IVec S8x1024x8x64 1 :=
  let main_v0 : FVec F S8x1x8x64 .f32 := (extf .f32 · bitsLt_bf16_f32) main_arg0
  let main_v1 : FVec F S8x1x8x64 .f32 := Host.absf main_v0
  let main_cst : FVec F S_ .f32 := constant S_ .f32 0x7F800000#32
  let main_v2 : FVec F S8x1x8x64 .f32 := broadcastInDim S8x1x8x64 ![] bcast_S_S8x1x8x64 main_cst
  let main_v3 : IVec S8x1x8x64 1 := cmpf .olt main_v1 main_v2
  let main_v4 : FVec F S8x1024x8x64 .f32 := (extf .f32 · bitsLt_bf16_f32) main_arg1
  let main_v5 : FVec F S8x1024x8x64 .f32 := Host.absf main_v4
  let main_cst_0 : FVec F S_ .f32 := constant S_ .f32 0x7F800000#32
  let main_v6 : FVec F S8x1024x8x64 .f32 := broadcastInDim S8x1024x8x64 ![] bcast_S_S8x1024x8x64 main_cst_0
  let main_v7 : IVec S8x1024x8x64 1 := cmpf .olt main_v5 main_v6
  (main_v3, main_v7)
-- ==== Kernel.lean ====
abbrev S8x1x8x64 : Shape := ⟨4, ![8, 1, 8, 64]⟩
abbrev S8x512x8x64 : Shape := ⟨4, ![8, 512, 8, 64]⟩
abbrev S_ : Shape := ⟨0, ![]⟩
abbrev S8x8x64x512 : Shape := ⟨4, ![8, 8, 64, 512]⟩
abbrev S8x1x64x512 : Shape := ⟨4, ![8, 1, 64, 512]⟩
abbrev S16x8x128 : Shape := ⟨3, ![16, 8, 128]⟩
abbrev S8x128 : Shape := ⟨2, ![8, 128]⟩
abbrev S16 : Shape := ⟨1, ![16]⟩
abbrev S8x512 : Shape := ⟨2, ![8, 512]⟩
abbrev S8x8x64 : Shape := ⟨3, ![8, 8, 64]⟩
abbrev S512x512 : Shape := ⟨2, ![512, 512]⟩
abbrev S8 : Shape := ⟨1, ![8]⟩
abbrev S8x1 : Shape := ⟨2, ![8, 1]⟩
abbrev S8x64 : Shape := ⟨2, ![8, 64]⟩
abbrev S1x8x128 : Shape := ⟨3, ![1, 8, 128]⟩
abbrev S1 : Shape := ⟨1, ![1]⟩
abbrev S8x1x1x64 : Shape := ⟨4, ![8, 1, 1, 64]⟩

abbrev nBuf : Space → Nat
  | .hbm => 39
  | .vmem => 6
  | .smem => 0
  | _ => 0

abbrev bufTy : (tb : Table) → Fin (tcTables nBuf tb) → BufTy
  | .hbm, ⟨0, _⟩ => ⟨S8x1x8x64, .bf16⟩
  | .hbm, ⟨1, _⟩ => ⟨S8x512x8x64, .bf16⟩
  | .hbm, ⟨2, _⟩ => ⟨S8x512x8x64, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S8x8x64x512, .bf16⟩
  | .hbm, ⟨19, _⟩ => ⟨S8x8x64x512, .bf16⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S8x1x64x512, .bf16⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S8x1x64x512, .bf16⟩
  | .hbm, ⟨38, _⟩ => ⟨S8x1x8x64, .f32⟩
  | .local _ .vmem, ⟨0, _⟩ => ⟨S8x1x8x64, .bf16⟩
  | .local _ .vmem, ⟨1, _⟩ => ⟨S8x1x64x512, .bf16⟩
  | .local _ .vmem, ⟨2, _⟩ => ⟨S8x1x64x512, .bf16⟩
  | .local _ .vmem, ⟨3, _⟩ => ⟨S8x1x8x64, .f32⟩
  | .local _ .vmem, ⟨4, _⟩ => ⟨S16x8x128, .f32⟩
  | .local _ .vmem, ⟨5, _⟩ => ⟨S8x128, .f32⟩
  | _, _ => ⟨S8x1x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_c_2 : Ref sig .tc := ⟨.hbm, 11, rfl⟩
abbrev main_c_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_4 : Ref sig .tc := ⟨.hbm, 20, rfl⟩
abbrev main_v13 : Ref sig .tc := ⟨.hbm, 21, rfl⟩
abbrev main_c_5 : Ref sig .tc := ⟨.hbm, 22, rfl⟩
abbrev main_v14 : Ref sig .tc := ⟨.hbm, 23, rfl⟩
abbrev main_v15 : Ref sig .tc := ⟨.hbm, 24, rfl⟩
abbrev main_c_6 : Ref sig .tc := ⟨.hbm, 25, rfl⟩
abbrev main_c_7 : Ref sig .tc := ⟨.hbm, 26, rfl⟩
abbrev main_c_8 : Ref sig .tc := ⟨.hbm, 27, rfl⟩
abbrev main_v16 : Ref sig .tc := ⟨.hbm, 28, rfl⟩
abbrev main_c_9 : Ref sig .tc := ⟨.hbm, 29, rfl⟩
abbrev main_v17 : Ref sig .tc := ⟨.hbm, 30, rfl⟩
abbrev main_c_10 : Ref sig .tc := ⟨.hbm, 31, rfl⟩
abbrev main_v18 : Ref sig .tc := ⟨.hbm, 32, rfl⟩
abbrev main_v19 : Ref sig .tc := ⟨.hbm, 33, rfl⟩
abbrev main_c_11 : Ref sig .tc := ⟨.hbm, 34, rfl⟩
abbrev main_c_12 : Ref sig .tc := ⟨.hbm, 35, rfl⟩
abbrev main_c_13 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32 : BitVec 32 := 0#32
  let v16 : BitVec 1 := Scalar.cmpi .ne v12 c0_i32
  let v17 : BitVec 32 := Scalar.extui v16
  let c0_i32_5 : BitVec 32 := 0#32
  let v18 : BitVec 1 := Scalar.cmpi .ne v17 c0_i32_5
  v18

def k0_dev1 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c0_i32_240 : BitVec 32 := 0#32
  let c1_i32_244 : BitVec 32 := 1#32
  let v567 : BitVec 32 := Scalar.muli c0_i32_240 c1_i32_244
  let v568 : BitVec 32 := Scalar.addi v566 v567
  v568.toNat
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_6 : BitVec 32 := 1#32
  let v19 : BitVec 1 := Scalar.cmpi .ne v12 c1_i32_6
  let v20 : BitVec 32 := Scalar.extui v19
  let c0_i32_7 : BitVec 32 := 0#32
  let v21 : BitVec 1 := Scalar.cmpi .ne v20 c0_i32_7
  v21

def k0_dev2 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c1_i32_240 : BitVec 32 := 1#32
  let c1_i32_244 : BitVec 32 := 1#32
  let v567 : BitVec 32 := Scalar.muli c1_i32_240 c1_i32_244
  let v568 : BitVec 32 := Scalar.addi v566 v567
  v568.toNat
def k0_cond3 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_8 : BitVec 32 := 2#32
  let v22 : BitVec 1 := Scalar.cmpi .ne v12 c2_i32_8
  let v23 : BitVec 32 := Scalar.extui v22
  let c0_i32_9 : BitVec 32 := 0#32
  let v24 : BitVec 1 := Scalar.cmpi .ne v23 c0_i32_9
  v24

def k0_dev3 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c2_i32_240 : BitVec 32 := 2#32
  let c1_i32_244 : BitVec 32 := 1#32
  let v567 : BitVec 32 := Scalar.muli c2_i32_240 c1_i32_244
  let v568 : BitVec 32 := Scalar.addi v566 v567
  v568.toNat
def k0_cond4 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32 : BitVec 32 := 3#32
  let v25 : BitVec 1 := Scalar.cmpi .ne v12 c3_i32
  let v26 : BitVec 32 := Scalar.extui v25
  let c0_i32_10 : BitVec 32 := 0#32
  let v27 : BitVec 1 := Scalar.cmpi .ne v26 c0_i32_10
  v27

def k0_dev4 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c3_i32_240 : BitVec 32 := 3#32
  let c1_i32_244 : BitVec 32 := 1#32
  let v567 : BitVec 32 := Scalar.muli c3_i32_240 c1_i32_244
  let v568 : BitVec 32 := Scalar.addi v566 v567
  v568.toNat
def k0_cond5 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_11 : BitVec 32 := 4#32
  let v28 : BitVec 1 := Scalar.cmpi .ne v12 c4_i32_11
  let v29 : BitVec 32 := Scalar.extui v28
  let c0_i32_12 : BitVec 32 := 0#32
  let v30 : BitVec 1 := Scalar.cmpi .ne v29 c0_i32_12
  v30

def k0_dev5 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c0_i32_240 : BitVec 32 := 0#32
  let c1_i32_244 : BitVec 32 := 1#32
  let v567 : BitVec 32 := Scalar.muli c0_i32_240 c1_i32_244
  let v568 : BitVec 32 := Scalar.addi v566 v567
  v568.toNat
def k0_cond6 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32 : BitVec 32 := 5#32
  let v31 : BitVec 1 := Scalar.cmpi .ne v12 c5_i32
  let v32 : BitVec 32 := Scalar.extui v31
  let c0_i32_13 : BitVec 32 := 0#32
  let v33 : BitVec 1 := Scalar.cmpi .ne v32 c0_i32_13
  v33

def k0_dev6 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c1_i32_240 : BitVec 32 := 1#32
  let c1_i32_244 : BitVec 32 := 1#32
  let v567 : BitVec 32 := Scalar.muli c1_i32_240 c1_i32_244
  let v568 : BitVec 32 := Scalar.addi v566 v567
  v568.toNat
def k0_cond7 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32 : BitVec 32 := 6#32
  let v34 : BitVec 1 := Scalar.cmpi .ne v12 c6_i32
  let v35 : BitVec 32 := Scalar.extui v34
  let c0_i32_14 : BitVec 32 := 0#32
  let v36 : BitVec 1 := Scalar.cmpi .ne v35 c0_i32_14
  v36

def k0_dev7 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c2_i32_240 : BitVec 32 := 2#32
  let c1_i32_244 : BitVec 32 := 1#32
  let v567 : BitVec 32 := Scalar.muli c2_i32_240 c1_i32_244
  let v568 : BitVec 32 := Scalar.addi v566 v567
  v568.toNat
def k0_cond8 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32 : BitVec 32 := 7#32
  let v37 : BitVec 1 := Scalar.cmpi .ne v12 c7_i32
  let v38 : BitVec 32 := Scalar.extui v37
  let c0_i32_15 : BitVec 32 := 0#32
  let v39 : BitVec 1 := Scalar.cmpi .ne v38 c0_i32_15
  v39

def k0_dev8 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c3_i32_240 : BitVec 32 := 3#32
  let c1_i32_244 : BitVec 32 := 1#32
  let v567 : BitVec 32 := Scalar.muli c3_i32_240 c1_i32_244
  let v568 : BitVec 32 := Scalar.addi v566 v567
  v568.toNat
def k0_cond9 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_16 : BitVec 32 := 8#32
  let v40 : BitVec 1 := Scalar.cmpi .ne v12 c8_i32_16
  let v41 : BitVec 32 := Scalar.extui v40
  let c0_i32_17 : BitVec 32 := 0#32
  let v42 : BitVec 1 := Scalar.cmpi .ne v41 c0_i32_17
  v42

def k0_dev9 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c0_i32_240 : BitVec 32 := 0#32
  let c1_i32_244 : BitVec 32 := 1#32
  let v567 : BitVec 32 := Scalar.muli c0_i32_240 c1_i32_244
  let v568 : BitVec 32 := Scalar.addi v566 v567
  v568.toNat
def k0_cond10 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32 : BitVec 32 := 9#32
  let v43 : BitVec 1 := Scalar.cmpi .ne v12 c9_i32
  let v44 : BitVec 32 := Scalar.extui v43
  let c0_i32_18 : BitVec 32 := 0#32
  let v45 : BitVec 1 := Scalar.cmpi .ne v44 c0_i32_18
  v45

def k0_dev10 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c1_i32_240 : BitVec 32 := 1#32
  let c1_i32_244 : BitVec 32 := 1#32
  let v567 : BitVec 32 := Scalar.muli c1_i32_240 c1_i32_244
  let v568 : BitVec 32 := Scalar.addi v566 v567
  v568.toNat
def k0_cond11 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32 : BitVec 32 := 10#32
  let v46 : BitVec 1 := Scalar.cmpi .ne v12 c10_i32
  let v47 : BitVec 32 := Scalar.extui v46
  let c0_i32_19 : BitVec 32 := 0#32
  let v48 : BitVec 1 := Scalar.cmpi .ne v47 c0_i32_19
  v48

def k0_dev11 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c2_i32_240 : BitVec 32 := 2#32
  let c1_i32_244 : BitVec 32 := 1#32
  let v567 : BitVec 32 := Scalar.muli c2_i32_240 c1_i32_244
  let v568 : BitVec 32 := Scalar.addi v566 v567
  v568.toNat
def k0_cond12 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32 : BitVec 32 := 11#32
  let v49 : BitVec 1 := Scalar.cmpi .ne v12 c11_i32
  let v50 : BitVec 32 := Scalar.extui v49
  let c0_i32_20 : BitVec 32 := 0#32
  let v51 : BitVec 1 := Scalar.cmpi .ne v50 c0_i32_20
  v51

def k0_dev12 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c3_i32_240 : BitVec 32 := 3#32
  let c1_i32_244 : BitVec 32 := 1#32
  let v567 : BitVec 32 := Scalar.muli c3_i32_240 c1_i32_244
  let v568 : BitVec 32 := Scalar.addi v566 v567
  v568.toNat
def k0_cond13 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32 : BitVec 32 := 12#32
  let v52 : BitVec 1 := Scalar.cmpi .ne v12 c12_i32
  let v53 : BitVec 32 := Scalar.extui v52
  let c0_i32_21 : BitVec 32 := 0#32
  let v54 : BitVec 1 := Scalar.cmpi .ne v53 c0_i32_21
  v54

def k0_dev13 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c0_i32_240 : BitVec 32 := 0#32
  let c1_i32_244 : BitVec 32 := 1#32
  let v567 : BitVec 32 := Scalar.muli c0_i32_240 c1_i32_244
  let v568 : BitVec 32 := Scalar.addi v566 v567
  v568.toNat
def k0_cond14 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32 : BitVec 32 := 13#32
  let v55 : BitVec 1 := Scalar.cmpi .ne v12 c13_i32
  let v56 : BitVec 32 := Scalar.extui v55
  let c0_i32_22 : BitVec 32 := 0#32
  let v57 : BitVec 1 := Scalar.cmpi .ne v56 c0_i32_22
  v57

def k0_dev14 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c1_i32_240 : BitVec 32 := 1#32
  let c1_i32_244 : BitVec 32 := 1#32
  let v567 : BitVec 32 := Scalar.muli c1_i32_240 c1_i32_244
  let v568 : BitVec 32 := Scalar.addi v566 v567
  v568.toNat
def k0_cond15 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32 : BitVec 32 := 14#32
  let v58 : BitVec 1 := Scalar.cmpi .ne v12 c14_i32
  let v59 : BitVec 32 := Scalar.extui v58
  let c0_i32_23 : BitVec 32 := 0#32
  let v60 : BitVec 1 := Scalar.cmpi .ne v59 c0_i32_23
  v60

def k0_dev15 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c2_i32_240 : BitVec 32 := 2#32
  let c1_i32_244 : BitVec 32 := 1#32
  let v567 : BitVec 32 := Scalar.muli c2_i32_240 c1_i32_244
  let v568 : BitVec 32 := Scalar.addi v566 v567
  v568.toNat
def k0_cond16 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32 : BitVec 32 := 15#32
  let v61 : BitVec 1 := Scalar.cmpi .ne v12 c15_i32
  let v62 : BitVec 32 := Scalar.extui v61
  let c0_i32_24 : BitVec 32 := 0#32
  let v63 : BitVec 1 := Scalar.cmpi .ne v62 c0_i32_24
  v63

def k0_dev16 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c3_i32_240 : BitVec 32 := 3#32
  let c1_i32_244 : BitVec 32 := 1#32
  let v567 : BitVec 32 := Scalar.muli c3_i32_240 c1_i32_244
  let v568 : BitVec 32 := Scalar.addi v566 v567
  v568.toNat
def k0_off1 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_72 : BitVec 32 := 0#32
  let c0_i32_73 : BitVec 32 := 0#32
  ![v12.toNat, 0, 0]
def k0_cond17 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_76 : BitVec 32 := 0#32
  let v195 : BitVec 1 := Scalar.cmpi .ne v12 c0_i32_76
  let v196 : BitVec 32 := Scalar.extui v195
  let c0_i32_77 : BitVec 32 := 0#32
  let v197 : BitVec 1 := Scalar.cmpi .ne v196 c0_i32_77
  v197

def k0_off2 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off3 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev17 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c0_i32_240 : BitVec 32 := 0#32
  let c1_i32_244 : BitVec 32 := 1#32
  let v567 : BitVec 32 := Scalar.muli c0_i32_240 c1_i32_244
  let v568 : BitVec 32 := Scalar.addi v566 v567
  v568.toNat
def k0_cond18 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_78 : BitVec 32 := 1#32
  let v198 : BitVec 1 := Scalar.cmpi .ne v12 c1_i32_78
  let v199 : BitVec 32 := Scalar.extui v198
  let c0_i32_79 : BitVec 32 := 0#32
  let v200 : BitVec 1 := Scalar.cmpi .ne v199 c0_i32_79
  v200

def k0_off4 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off5 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev18 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c1_i32_240 : BitVec 32 := 1#32
  let c1_i32_244 : BitVec 32 := 1#32
  let v567 : BitVec 32 := Scalar.muli c1_i32_240 c1_i32_244
  let v568 : BitVec 32 := Scalar.addi v566 v567
  v568.toNat
def k0_cond19 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_80 : BitVec 32 := 2#32
  let v201 : BitVec 1 := Scalar.cmpi .ne v12 c2_i32_80
  let v202 : BitVec 32 := Scalar.extui v201
  let c0_i32_81 : BitVec 32 := 0#32
  let v203 : BitVec 1 := Scalar.cmpi .ne v202 c0_i32_81
  v203

def k0_off6 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off7 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev19 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c2_i32_240 : BitVec 32 := 2#32
  let c1_i32_244 : BitVec 32 := 1#32
  let v567 : BitVec 32 := Scalar.muli c2_i32_240 c1_i32_244
  let v568 : BitVec 32 := Scalar.addi v566 v567
  v568.toNat
def k0_cond20 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32_82 : BitVec 32 := 3#32
  let v204 : BitVec 1 := Scalar.cmpi .ne v12 c3_i32_82
  let v205 : BitVec 32 := Scalar.extui v204
  let c0_i32_83 : BitVec 32 := 0#32
  let v206 : BitVec 1 := Scalar.cmpi .ne v205 c0_i32_83
  v206

def k0_off8 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off9 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev20 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c3_i32_240 : BitVec 32 := 3#32
  let c1_i32_244 : BitVec 32 := 1#32
  let v567 : BitVec 32 := Scalar.muli c3_i32_240 c1_i32_244
  let v568 : BitVec 32 := Scalar.addi v566 v567
  v568.toNat
def k0_cond21 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_84 : BitVec 32 := 4#32
  let v207 : BitVec 1 := Scalar.cmpi .ne v12 c4_i32_84
  let v208 : BitVec 32 := Scalar.extui v207
  let c0_i32_85 : BitVec 32 := 0#32
  let v209 : BitVec 1 := Scalar.cmpi .ne v208 c0_i32_85
  v209

def k0_off10 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off11 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev21 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c0_i32_240 : BitVec 32 := 0#32
  let c1_i32_244 : BitVec 32 := 1#32
  let v567 : BitVec 32 := Scalar.muli c0_i32_240 c1_i32_244
  let v568 : BitVec 32 := Scalar.addi v566 v567
  v568.toNat
def k0_cond22 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32_86 : BitVec 32 := 5#32
  let v210 : BitVec 1 := Scalar.cmpi .ne v12 c5_i32_86
  let v211 : BitVec 32 := Scalar.extui v210
  let c0_i32_87 : BitVec 32 := 0#32
  let v212 : BitVec 1 := Scalar.cmpi .ne v211 c0_i32_87
  v212

def k0_off12 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off13 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev22 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c1_i32_240 : BitVec 32 := 1#32
  let c1_i32_244 : BitVec 32 := 1#32
  let v567 : BitVec 32 := Scalar.muli c1_i32_240 c1_i32_244
  let v568 : BitVec 32 := Scalar.addi v566 v567
  v568.toNat
def k0_cond23 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32_88 : BitVec 32 := 6#32
  let v213 : BitVec 1 := Scalar.cmpi .ne v12 c6_i32_88
  let v214 : BitVec 32 := Scalar.extui v213
  let c0_i32_89 : BitVec 32 := 0#32
  let v215 : BitVec 1 := Scalar.cmpi .ne v214 c0_i32_89
  v215

def k0_off14 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off15 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev23 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c2_i32_240 : BitVec 32 := 2#32
  let c1_i32_244 : BitVec 32 := 1#32
  let v567 : BitVec 32 := Scalar.muli c2_i32_240 c1_i32_244
  let v568 : BitVec 32 := Scalar.addi v566 v567
  v568.toNat
def k0_cond24 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32_90 : BitVec 32 := 7#32
  let v216 : BitVec 1 := Scalar.cmpi .ne v12 c7_i32_90
  let v217 : BitVec 32 := Scalar.extui v216
  let c0_i32_91 : BitVec 32 := 0#32
  let v218 : BitVec 1 := Scalar.cmpi .ne v217 c0_i32_91
  v218

def k0_off16 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off17 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev24 : Nat :=
  let c0_i32_242 : BitVec 32 := 0#32
  let c0_i32_238 : BitVec 32 := 0#32
  let c8_i32_241 : BitVec 32 := 8#32
  let v563 : BitVec 32 := Scalar.muli c0_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c3_i32_240 : BitVec 32 := 3#32
  let c1_i32_244 : BitVec 32 := 1#32
  let v567 : BitVec 32 := Scalar.muli c3_i32_240 c1_i32_244
  let v568 : BitVec 32 := Scalar.addi v566 v567
  v568.toNat
def k0_cond25 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_92 : BitVec 32 := 8#32
  let v219 : BitVec 1 := Scalar.cmpi .ne v12 c8_i32_92
  let v220 : BitVec 32 := Scalar.extui v219
  let c0_i32_93 : BitVec 32 := 0#32
  let v221 : BitVec 1 := Scalar.cmpi .ne v220 c0_i32_93
  v221

def k0_off18 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off19 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev25 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c0_i32_240 : BitVec 32 := 0#32
  let c1_i32_244 : BitVec 32 := 1#32
  let v567 : BitVec 32 := Scalar.muli c0_i32_240 c1_i32_244
  let v568 : BitVec 32 := Scalar.addi v566 v567
  v568.toNat
def k0_cond26 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32_94 : BitVec 32 := 9#32
  let v222 : BitVec 1 := Scalar.cmpi .ne v12 c9_i32_94
  let v223 : BitVec 32 := Scalar.extui v222
  let c0_i32_95 : BitVec 32 := 0#32
  let v224 : BitVec 1 := Scalar.cmpi .ne v223 c0_i32_95
  v224

def k0_off20 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off21 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev26 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c1_i32_240 : BitVec 32 := 1#32
  let c1_i32_244 : BitVec 32 := 1#32
  let v567 : BitVec 32 := Scalar.muli c1_i32_240 c1_i32_244
  let v568 : BitVec 32 := Scalar.addi v566 v567
  v568.toNat
def k0_cond27 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32_96 : BitVec 32 := 10#32
  let v225 : BitVec 1 := Scalar.cmpi .ne v12 c10_i32_96
  let v226 : BitVec 32 := Scalar.extui v225
  let c0_i32_97 : BitVec 32 := 0#32
  let v227 : BitVec 1 := Scalar.cmpi .ne v226 c0_i32_97
  v227

def k0_off22 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off23 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev27 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c2_i32_240 : BitVec 32 := 2#32
  let c1_i32_244 : BitVec 32 := 1#32
  let v567 : BitVec 32 := Scalar.muli c2_i32_240 c1_i32_244
  let v568 : BitVec 32 := Scalar.addi v566 v567
  v568.toNat
def k0_cond28 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32_98 : BitVec 32 := 11#32
  let v228 : BitVec 1 := Scalar.cmpi .ne v12 c11_i32_98
  let v229 : BitVec 32 := Scalar.extui v228
  let c0_i32_99 : BitVec 32 := 0#32
  let v230 : BitVec 1 := Scalar.cmpi .ne v229 c0_i32_99
  v230

def k0_off24 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off25 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev28 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c0_i32_239 : BitVec 32 := 0#32
  let c4_i32_243 : BitVec 32 := 4#32
  let v565 : BitVec 32 := Scalar.muli c0_i32_239 c4_i32_243
  let v566 : BitVec 32 := Scalar.addi v564 v565
  let c3_i32_240 : BitVec 32 := 3#32
  let c1_i32_244 : BitVec 32 := 1#32
  let v567 : BitVec 32 := Scalar.muli c3_i32_240 c1_i32_244
  let v568 : BitVec 32 := Scalar.addi v566 v567
  v568.toNat
def k0_cond29 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32_100 : BitVec 32 := 12#32
  let v231 : BitVec 1 := Scalar.cmpi .ne v12 c12_i32_100
  let v232 : BitVec 32 := Scalar.extui v231
  let c0_i32_101 : BitVec 32 := 0#32
  let v233 : BitVec 1 := Scalar.cmpi .ne v232 c0_i32_101
  v233

def k0_off26 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off27 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev29 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c0_i32_240 : BitVec 32 := 0#32
  let c1_i32_244 : BitVec 32 := 1#32
  let v567 : BitVec 32 := Scalar.muli c0_i32_240 c1_i32_244
  let v568 : BitVec 32 := Scalar.addi v566 v567
  v568.toNat
def k0_cond30 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32_102 : BitVec 32 := 13#32
  let v234 : BitVec 1 := Scalar.cmpi .ne v12 c13_i32_102
  let v235 : BitVec 32 := Scalar.extui v234
  let c0_i32_103 : BitVec 32 := 0#32
  let v236 : BitVec 1 := Scalar.cmpi .ne v235 c0_i32_103
  v236

def k0_off28 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off29 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev30 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c1_i32_240 : BitVec 32 := 1#32
  let c1_i32_244 : BitVec 32 := 1#32
  let v567 : BitVec 32 := Scalar.muli c1_i32_240 c1_i32_244
  let v568 : BitVec 32 := Scalar.addi v566 v567
  v568.toNat
def k0_cond31 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32_104 : BitVec 32 := 14#32
  let v237 : BitVec 1 := Scalar.cmpi .ne v12 c14_i32_104
  let v238 : BitVec 32 := Scalar.extui v237
  let c0_i32_105 : BitVec 32 := 0#32
  let v239 : BitVec 1 := Scalar.cmpi .ne v238 c0_i32_105
  v239

def k0_off30 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off31 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev31 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c2_i32_240 : BitVec 32 := 2#32
  let c1_i32_244 : BitVec 32 := 1#32
  let v567 : BitVec 32 := Scalar.muli c2_i32_240 c1_i32_244
  let v568 : BitVec 32 := Scalar.addi v566 v567
  v568.toNat
def k0_cond32 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32_106 : BitVec 32 := 15#32
  let v240 : BitVec 1 := Scalar.cmpi .ne v12 c15_i32_106
  let v241 : BitVec 32 := Scalar.extui v240
  let c0_i32_107 : BitVec 32 := 0#32
  let v242 : BitVec 1 := Scalar.cmpi .ne v241 c0_i32_107
  v242

def k0_off32 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off33 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_245 : BitVec 32 := 0#32
  let c0_i32_246 : BitVec 32 := 0#32
  ![v12.toNat, 0, 0]
def k0_dev32 : Nat :=
  let c0_i32_242 : BitVec 32 := 0#32
  let c1_i32_238 : BitVec 32 := 1#32
  let c8_i32_241 : BitVec 32 := 8#32
  let v563 : BitVec 32 := Scalar.muli c1_i32_238 c8_i32_241
  let v564 : BitVec 32 := Scalar.addi c0_i32_242 v563
  let c1_i32_239 : BitVec 32 := 1#32
  let c4_i32_243 : BitVec 32 := 4#32
  let v565 : BitVec 32 := Scalar.muli c1_i32_239 c4_i32_243
  let v566 : BitVec 32 := Scalar.addi v564 v565
  let c3_i32_240 : BitVec 32 := 3#32
  let c1_i32_244 : BitVec 32 := 1#32
  let v567 : BitVec 32 := Scalar.muli c3_i32_240 c1_i32_244
  let v568 : BitVec 32 := Scalar.addi v566 v567
  v568.toNat
abbrev stage0_0 : Fin 1 → Memref sig .tc .vmem S8x1x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x1x8x64 : Shape := ⟨4, ![8, 1, 8, 64]⟩
abbrev S8x1024x8x64 : Shape := ⟨4, ![8, 1024, 8, 64]⟩
abbrev S8x8x1x1024 : Shape := ⟨4, ![8, 8, 1, 1024]⟩
abbrev S_ : Shape := ⟨0, ![]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x1x8x64, .bf16⟩
  | .hbm, ⟨1, _⟩ => ⟨S8x1024x8x64, .bf16⟩
  | .hbm, ⟨2, _⟩ => ⟨S8x1024x8x64, .bf16⟩
  | .hbm, ⟨3, _⟩ => ⟨S8x1x8x64, .f32⟩
  | .hbm, ⟨4, _⟩ => ⟨S8x1024x8x64, .f32⟩
  | .hbm, ⟨5, _⟩ => ⟨S8x1024x8x64, .f32⟩
  | .hbm, ⟨6, _⟩ => ⟨S8x8x1x1024, .f32⟩
  | .hbm, ⟨7, _⟩ => ⟨S_, .f32⟩
  | .hbm, ⟨8, _⟩ => ⟨S8x8x1x1024, .f32⟩
  | .hbm, ⟨9, _⟩ => ⟨S8x8x1x1024, .f32⟩
  | .hbm, ⟨10, _⟩ => ⟨S_, .f32⟩
  | .hbm, ⟨11, _⟩ => ⟨S8x8x1, .f32⟩
  | .hbm, ⟨12, _⟩ => ⟨S8x8x1x1, .f32⟩
  | .hbm, ⟨13, _⟩ => ⟨S8x8x1x1024, .f32⟩
  | .hbm, ⟨14, _⟩ => ⟨S8x8x1x1024, .f32⟩
  | .hbm, ⟨15, _⟩ => ⟨S8x8x1x1024, .f32⟩
  | .hbm, ⟨16, _⟩ => ⟨S_, .f32⟩
  | .hbm, ⟨17, _⟩ => ⟨S8x8x1, .f32⟩
  | .hbm, ⟨18, _⟩ => ⟨S8x8x1x1, .f32⟩
  | .hbm, ⟨19, _⟩ => ⟨S8x8x1x1024, .f32⟩
  | .hbm, ⟨20, _⟩ => ⟨S8x8x1x1024, .f32⟩
  | .hbm, ⟨21, _⟩ => ⟨S8x8x64x1, .f32⟩
  | .hbm, ⟨22, _⟩ => ⟨S8x1x8x64, .f32⟩
  | _, _ => ⟨S8x1x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Prog.lean ====
module

public import proofs.«01_k».proof.Proof.Gen.KernelIdeal.Skeleton
public import proofs.«01_k».proof.Proof.Gen.KernelIdeal.Points
public import Idealize.ShloMosaic.Lib.Tactic

/-! # The kernel's body as a short program

The printed body repeats each step of the exchange sixteen times, once per device number, each under
the test that the number is not the device's own. Here the same body is written with one definition
per kind of step and a walk through the device numbers, and is proved equal to the printed one. -/

@[expose] public section

noncomputable section

namespace Cert.KernelIdeal.Flash

open Idealize.ShloMosaic Idealize.ShloMosaic.TcCoe
open Idealize.SL Idealize.SL.Sem
open Cert.KernelIdeal Cert.KernelIdeal.Gen

variable {F : FTy → Type} [FloatOps F]

/-- A program of one device of this kernel. -/
abbrev Kern (F : FTy → Type) (α : Type) := Prog (TpuEff nD τ sig (Elt F) Λ₀ .tc) α

/-! ## The buffers and semaphores of the exchange -/

/-- The buffer that gathers the partial results of all devices, one slot per device. -/
abbrev commM : Memref sig .tc .vmem S16x8x128 .f32 := Memref.whole cc0_scratch0
/-- The buffer that holds the device's own partial result. -/
abbrev ownM : Memref sig .tc .vmem S8x128 .f32 := Memref.whole cc0_scratch1

/-- Slot `i` lies inside the gathering buffer. -/
theorem slot_inb (i : Dev nD) : ∀ a, (![i.val, 0, 0] : Fin 3 → Nat) a + S1x8x128.size a ≤ S16x8x128.size a := by
  revert i; decide
/-- Entry `i` lies inside an array of sixteen semaphores. -/
theorem sem_inb (i : Dev nD) : ∀ a, (![i.val] : Fin 1 → Nat) a + S1.size a ≤ S16.size a := by
  revert i; decide

/-- The rectangle of slot `i` of the gathering buffer. -/
abbrev slotR (i : Dev nD) : Rect S16x8x128 := Rect.unit (s := S16x8x128) ![i.val, 0, 0] S1x8x128.size (slot_inb i)
/-- Slot `i` of the gathering buffer: where device `i`'s partial result lands. -/
def slotM (i : Dev nD) : Memref sig .tc .vmem S8x128 .f32 :=
  (commM.slice (slotR i) (fun _ => rfl)).squeeze S8x128 squeezes_S1x8x128_S8x128
/-- Semaphore `i` of an array of sixteen. -/
def semAt (a : DmaSems sig S16) (i : Dev nD) : DmaSem sig :=
  ((a.slice (Rect.unit (s := S16) ![i.val] S1.size (sem_inb i))).squeeze S_ squeezes_S1_S_).sem
/-- The semaphore of the copy into the device's own slot. -/
abbrev selfSem : DmaSem sig := cc0_scratch2.sem
/-- The semaphore that tells the sender that its copy to device `j` has left. -/
abbrev sendSem (j : Dev nD) : DmaSem sig := semAt cc0_scratch3 j
/-- The semaphore that tells the receiver that device `i`'s partial result has landed. -/
abbrev recvSem (i : Dev nD) : DmaSem sig := semAt cc0_scratch4 i
/-- The barrier semaphore. -/
abbrev barSem : Sem sig := (SemArray.scalar (sig.barrier 0 rfl) : Sems sig S_).sem

theorem slotM_wordExact (i : Dev nD) : (slotM i).view.WordExact := (View.wordExact_bits rfl).reshape _ _
theorem ownM_wordExact : ownM.view.WordExact := (Memref.isWhole_whole cc0_scratch1).wordExact

/-! ## The steps -/

/-- A step taken for every device number but the device's own. -/
def unlessSelf {α : Type} (c j : Dev nD) (op : (Kern F α) → Kern F α) (K : Kern F α) : Kern F α :=
  if c = j then K else op K

/-- Tell device `j` that this device has entered the kernel. -/
def sigOp {α : Type} (c j : Dev nD) : (Kern F α) → Kern F α :=
  unlessSelf c j fun K => .op (.semSignal (j, .tc) barSem 1) fun _ => K
/-- Copy the own partial result into this device's slot on device `j`. -/
def sendOp {α : Type} (c j : Dev nD) : (Kern F α) → Kern F α :=
  unlessSelf c j fun K =>
    .op (.enqueueDma ownM (.remote (Dev.tc j) (slotM c) (.dma (sendSem j))) (.dma (recvSem c)) ownM_wordExact (slotM_wordExact c) ⟨⟨rfl, Or.inl rfl⟩, trivial⟩) fun _ => K
/-- Wait until device `j`'s partial result has landed. -/
def recvOp {α : Type} (c j : Dev nD) : (Kern F α) → Kern F α :=
  unlessSelf c j fun K => .op (.waitDma2 (recvSem j) ownM (slotM j) ownM_wordExact (slotM_wordExact j)) fun _ => K
/-- Wait until the own copy to device `j` has left. -/
def drainOp {α : Type} (c j : Dev nD) : (Kern F α) → Kern F α :=
  unlessSelf c j fun K => .op (.waitDma2 (sendSem j) (slotM j) ownM (slotM_wordExact j) ownM_wordExact) fun _ => K

/-- The device's number as the kernel computes it from its place in the mesh. -/
def myWord (d : Dev nD) : BitVec 32 :=
  Scalar.addi (Scalar.addi (Scalar.muli (Scalar.remsi (Scalar.divsi (Dev.word d) 8#32) 2#32) 8#32)
    (Scalar.muli (Scalar.remsi (Scalar.divsi (Dev.word d) 4#32) 2#32) 4#32)) (Scalar.remsi (Scalar.divsi (Dev.word d) 1#32) 4#32)
/-- The head the device works on, as the kernel computes it. -/
def headWord (d : Dev nD) : BitVec 32 :=
  Scalar.addi (Scalar.muli (Scalar.remsi (Scalar.divsi (Dev.word d) 4#32) 2#32) 4#32) (Scalar.remsi (Scalar.divsi (Dev.word d) 1#32) 4#32)

/-- The test "the number `j` is not mine" on words is the test on device numbers. -/
theorem test_iff : ∀ d j : Dev nD,
    Scalar.cmpi .ne (Scalar.extui (Scalar.cmpi .ne (myWord d) (BitVec.ofNat 32 j.val)) : BitVec 32) 0#32 = 1#1 ↔ d ≠ j := by
  decide +kernel

/-- The printed test around a step against the definition above. -/
theorem dite_eq_unlessSelf {α : Type} {c j : Dev nD} {op : (Kern F α) → Kern F α} {P : Prop} {i : Decidable P}
    {A : P → Kern F α} {K K' : Kern F α} (hP : P ↔ c ≠ j) (hA : ∀ h, A h = op K) (hK : K = K') :
    @dite _ P i A (fun _ => K) = unlessSelf c j op K' := by
  subst hK
  unfold unlessSelf
  by_cases h : c = j
  · rw [dif_neg (fun hp => hP.mp hp h), if_pos h]
  · rw [dif_pos (hP.mpr h), if_neg h, hA]

/-- The same for the first step of a walk of signals. -/
theorem dite_eq_sig {α : Type} {c j : Dev nD} {l : List (Dev nD)}
    {P : Prop} {i : Decidable P} {A : P → Kern F α} {K K' : Kern F α} (hP : P ↔ c ≠ j)
    (hA : ∀ h, A h = .op (.semSignal (j, .tc) barSem 1) fun _ => K)
    (hK : K = l.foldr (sigOp c) K') :
    @dite _ P i A (fun _ => K) = (j :: l).foldr (sigOp c) K' := by
  rw [List.foldr_cons]
  exact dite_eq_unlessSelf hP hA hK

/-- The same for the first step of a walk of remote copies. -/
theorem dite_eq_send {α : Type} {c j : Dev nD} {l : List (Dev nD)}
    {P : Prop} {i : Decidable P} {A : P → Kern F α} {K K' : Kern F α} (hP : P ↔ c ≠ j)
    (hA : ∀ h, A h = .op (.enqueueDma ownM (.remote (Dev.tc j) (slotM c) (.dma (sendSem j))) (.dma (recvSem c)) ownM_wordExact (slotM_wordExact c) ⟨⟨rfl, Or.inl rfl⟩, trivial⟩) fun _ => K)
    (hK : K = l.foldr (sendOp c) K') :
    @dite _ P i A (fun _ => K) = (j :: l).foldr (sendOp c) K' := by
  rw [List.foldr_cons]
  exact dite_eq_unlessSelf hP hA hK

/-- The same for the first step of a walk of waits for the landings. -/
theorem dite_eq_recv {α : Type} {c j : Dev nD} {l : List (Dev nD)}
    {w : BitVec 32} {i : Decidable (Scalar.cmpi .ne (Scalar.extui (Scalar.cmpi .ne (myWord c) w) : BitVec 32) 0#32 = 1#1)}
    {A : Scalar.cmpi .ne (Scalar.extui (Scalar.cmpi .ne (myWord c) w) : BitVec 32) 0#32 = 1#1 → Kern F α} {K K' : Kern F α} (hw : w = BitVec.ofNat 32 j.val)
    (hA : ∀ h, A h = .op (.waitDma2 (recvSem j) ownM (slotM j) ownM_wordExact (slotM_wordExact j)) fun _ => K)
    (hK : K = l.foldr (recvOp c) K') :
    @dite _ _ i A (fun _ => K) = (j :: l).foldr (recvOp c) K' := by
  subst hw
  rw [List.foldr_cons]
  exact dite_eq_unlessSelf (test_iff c j) hA hK

/-- The same for the first step of a walk of waits for the departures. -/
theorem dite_eq_drain {α : Type} {c j : Dev nD} {l : List (Dev nD)}
    {w : BitVec 32} {i : Decidable (Scalar.cmpi .ne (Scalar.extui (Scalar.cmpi .ne (myWord c) w) : BitVec 32) 0#32 = 1#1)}
    {A : Scalar.cmpi .ne (Scalar.extui (Scalar.cmpi .ne (myWord c) w) : BitVec 32) 0#32 = 1#1 → Kern F α} {K K' : Kern F α} (hw : w = BitVec.ofNat 32 j.val)
    (hA : ∀ h, A h = .op (.waitDma2 (sendSem j) (slotM j) ownM (slotM_wordExact j) ownM_wordExact) fun _ => K)
    (hK : K = l.foldr (drainOp c) K') :
    @dite _ _ i A (fun _ => K) = (j :: l).foldr (drainOp c) K' := by
  subst hw
  rw [List.foldr_cons]
  exact dite_eq_unlessSelf (test_iff c j) hA hK

/-- A printed signal is the signal to the device its word names. -/
theorem signal_eq {α : Type} {n : Nat} {hn : n < nD} {j : Dev nD} (h : n = j.val) (K : Kern F α) :
    (semSignalWord (⟨n, hn⟩ : Dev nD) barSem 1#32 >>= fun _ => K) = .op (.semSignal (j, .tc) barSem 1) fun _ => K := by
  obtain rfl : (⟨n, hn⟩ : Dev nD) = j := Fin.ext h
  rfl

/-- A printed remote copy is the copy to the device, slot and semaphores its words name. -/
theorem send_eq {α : Type} {n : Nat} {hn : n < nD} {j c : Dev nD} {o₁ o₂ : Fin 1 → Nat} {o₃ : Fin 3 → Nat} (h : n = j.val) (h₁ : o₁ = ![j.val]) (h₂ : o₂ = ![c.val])
    (h₃ : o₃ = ![c.val, 0, 0]) (i₁ : ∀ a, o₁ a + S1.size a ≤ S16.size a) (i₂ : ∀ a, o₂ a + S1.size a ≤ S16.size a)
    (i₃ : ∀ a, o₃ a + S1x8x128.size a ≤ S16x8x128.size a) (e₁ : ownM.view.WordExact)
    (e₂ : ((commM.slice (Rect.unit (s := S16x8x128) o₃ S1x8x128.size i₃) (fun _ => rfl)).squeeze S8x128 squeezes_S1x8x128_S8x128).view.WordExact)
    (K : Kern F α) :
    (Prog.lift (TpuEff.enqueueDma ownM
      (.remote (Dev.tc (⟨n, hn⟩ : Dev nD)) ((commM.slice (Rect.unit (s := S16x8x128) o₃ S1x8x128.size i₃) (fun _ => rfl)).squeeze S8x128 squeezes_S1x8x128_S8x128)
        (.dma ((cc0_scratch3.slice (Rect.unit (s := S16) o₁ S1.size i₁)).squeeze S_ squeezes_S1_S_).sem))
      (.dma ((cc0_scratch4.slice (Rect.unit (s := S16) o₂ S1.size i₂)).squeeze S_ squeezes_S1_S_).sem) e₁ e₂ ⟨⟨rfl, Or.inl rfl⟩, trivial⟩)
      >>= fun _ => K : Kern F α)
    = .op (.enqueueDma ownM (.remote (Dev.tc j) (slotM c) (.dma (sendSem j))) (.dma (recvSem c)) ownM_wordExact (slotM_wordExact c) ⟨⟨rfl, Or.inl rfl⟩, trivial⟩) fun _ => K := by
  obtain rfl : (⟨n, hn⟩ : Dev nD) = j := Fin.ext h
  subst h₁ h₂ h₃; rfl

/-- A printed wait is the wait at the semaphore and slot its offsets name. -/
theorem recv_eq {α : Type} {j : Dev nD} {o₁ : Fin 1 → Nat} {o₃ : Fin 3 → Nat} (h₁ : o₁ = ![j.val]) (h₃ : o₃ = ![j.val, 0, 0])
    (i₁ : ∀ a, o₁ a + S1.size a ≤ S16.size a)
    (i₃ : ∀ a, o₃ a + S1x8x128.size a ≤ S16x8x128.size a) (e₁ : ownM.view.WordExact)
    (e₂ : ((commM.slice (Rect.unit (s := S16x8x128) o₃ S1x8x128.size i₃) (fun _ => rfl)).squeeze S8x128 squeezes_S1x8x128_S8x128).view.WordExact)
    (K : Kern F α) :
    (Prog.lift (TpuEff.waitDma2 ((cc0_scratch4.slice (Rect.unit (s := S16) o₁ S1.size i₁)).squeeze S_ squeezes_S1_S_).sem
      ownM ((commM.slice (Rect.unit (s := S16x8x128) o₃ S1x8x128.size i₃) (fun _ => rfl)).squeeze S8x128 squeezes_S1x8x128_S8x128) e₁ e₂)
      >>= fun _ => K : Kern F α)
    = .op (.waitDma2 (recvSem j) ownM (slotM j) ownM_wordExact (slotM_wordExact j)) fun _ => K := by subst h₁ h₃; rfl

/-- A printed wait for a departure is the wait at the semaphore and slot its offsets name. -/
theorem drain_eq {α : Type} {j : Dev nD} {o₁ : Fin 1 → Nat} {o₃ : Fin 3 → Nat} (h₁ : o₁ = ![j.val]) (h₃ : o₃ = ![j.val, 0, 0])
    (i₁ : ∀ a, o₁ a + S1.size a ≤ S16.size a)
    (i₃ : ∀ a, o₃ a + S1x8x128.size a ≤ S16x8x128.size a)
    (e₂ : ((commM.slice (Rect.unit (s := S16x8x128) o₃ S1x8x128.size i₃) (fun _ => rfl)).squeeze S8x128 squeezes_S1x8x128_S8x128).view.WordExact)
    (e₁ : ownM.view.WordExact) (K : Kern F α) :
    (Prog.lift (TpuEff.waitDma2 ((cc0_scratch3.slice (Rect.unit (s := S16) o₁ S1.size i₁)).squeeze S_ squeezes_S1_S_).sem
      ((commM.slice (Rect.unit (s := S16x8x128) o₃ S1x8x128.size i₃) (fun _ => rfl)).squeeze S8x128 squeezes_S1x8x128_S8x128) ownM e₂ e₁)
      >>= fun _ => K : Kern F α)
    = .op (.waitDma2 (sendSem j) (slotM j) ownM (slotM_wordExact j) ownM_wordExact) fun _ => K := by subst h₁ h₃; rfl

/-- The printed copy into a slot of the device's own, and its wait, are those of the slot the offset names. -/
theorem selfCopy_eq {α : Type} {c : Dev nD} {o : Fin 3 → Nat} (h : o = ![c.val, 0, 0])
    (i : ∀ a, o a + S1x8x128.size a ≤ S16x8x128.size a) (e₁ : ownM.view.WordExact)
    (e₂ : ((commM.slice (Rect.unit (s := S16x8x128) o S1x8x128.size i) (fun _ => rfl)).squeeze S8x128 squeezes_S1x8x128_S8x128).view.WordExact)
    (K : Kern F α) :
    (.op (.enqueueDma ownM (.here ((commM.slice (Rect.unit (s := S16x8x128) o S1x8x128.size i) (fun _ => rfl)).squeeze S8x128 squeezes_S1x8x128_S8x128))
        (.dma selfSem) e₁ e₂ ⟨Or.inl rfl, trivial⟩) fun _ =>
      .op (.waitDma2 selfSem ownM ((commM.slice (Rect.unit (s := S16x8x128) o S1x8x128.size i) (fun _ => rfl)).squeeze S8x128 squeezes_S1x8x128_S8x128) e₁ e₂)
        fun _ => K : Kern F α)
    = .op (.enqueueDma ownM (.here (slotM c)) (.dma selfSem) ownM_wordExact (slotM_wordExact c) ⟨Or.inl rfl, trivial⟩) fun _ =>
      .op (.waitDma2 selfSem ownM (slotM c) ownM_wordExact (slotM_wordExact c)) fun _ => K := by
  subst h; rfl

/-! ## The values the kernel computes -/

/-- The exponentials' weighted sum of one device: the first 64 columns of its partial result. -/
def oPay (d : Dev nD) (q : Vec F S8x1x8x64 .bf16) (k v : Vec F S8x1x64x512 .bf16) : FVec F S8x64 .f32 :=
  k0_pay15 k0_pay1 (k0_pay2 q)
    (k0_pay6 (headWord d) (iota .tc S512x512 32 [0] iota_S512x512_d0_w32) 64#32 k0_pay3 k0_pay4 k0_pay5)
    (k0_pay7 (iota .tc S512x512 32 [0] iota_S512x512_d0_w32)) (Scalar.select (Scalar.cmpi .eq 64#32 0#32) 1#32 64#32)
    (k0_pay8 (iota .tc S512x512 32 [1] iota_S512x512_d1_w32)) (k0_pay9 (iota .tc S512x512 32 [1] iota_S512x512_d1_w32))
    (k0_pay10 (iota .tc S512x512 32 [1] iota_S512x512_d1_w32))
    (Scalar.cmpi .slt (Scalar.select (Scalar.cmpi .eq 64#32 0#32) 1#32 64#32) 0#32) k v
/-- The largest score of one device: column 64 of its partial result. -/
def mPay (d : Dev nD) (q : Vec F S8x1x8x64 .bf16) (k : Vec F S8x1x64x512 .bf16) : FVec F S8x1 .f32 :=
  k0_pay16 k0_pay1 (k0_pay2 q)
    (k0_pay6 (headWord d) (iota .tc S512x512 32 [0] iota_S512x512_d0_w32) 64#32 k0_pay3 k0_pay4 k0_pay5)
    (k0_pay7 (iota .tc S512x512 32 [0] iota_S512x512_d0_w32)) (Scalar.select (Scalar.cmpi .eq 64#32 0#32) 1#32 64#32)
    (k0_pay8 (iota .tc S512x512 32 [1] iota_S512x512_d1_w32)) (k0_pay9 (iota .tc S512x512 32 [1] iota_S512x512_d1_w32))
    (k0_pay10 (iota .tc S512x512 32 [1] iota_S512x512_d1_w32))
    (Scalar.cmpi .slt (Scalar.select (Scalar.cmpi .eq 64#32 0#32) 1#32 64#32) 0#32) k
/-- The exponentials' sum of one device: column 65 of its partial result. -/
def lPay (d : Dev nD) (q : Vec F S8x1x8x64 .bf16) (k : Vec F S8x1x64x512 .bf16) : FVec F S8x1 .f32 :=
  k0_pay17 (k0_pay14 k0_pay1 (k0_pay2 q)
    (k0_pay6 (headWord d) (iota .tc S512x512 32 [0] iota_S512x512_d0_w32) 64#32 k0_pay3 k0_pay4 k0_pay5)
    (k0_pay7 (iota .tc S512x512 32 [0] iota_S512x512_d0_w32)) (Scalar.select (Scalar.cmpi .eq 64#32 0#32) 1#32 64#32)
    (k0_pay8 (iota .tc S512x512 32 [1] iota_S512x512_d1_w32)) (k0_pay9 (iota .tc S512x512 32 [1] iota_S512x512_d1_w32))
    (k0_pay10 (iota .tc S512x512 32 [1] iota_S512x512_d1_w32))
    (Scalar.cmpi .slt (Scalar.select (Scalar.cmpi .eq 64#32 0#32) 1#32 64#32) 0#32) k)

/-- Two partial results of one head combined. -/
abbrev combine (v w : Vec F S1x8x128 .f32) : FVec F S8x1x1x64 .f32 := k0_pay20 v w

/-- The slot of the second half's partial result for head `s`. -/
def upper (s : Fin 8) : Dev nD := ⟨8 + s.val, by have := s.isLt; show _ < 16; omega⟩
/-- The slot of the first half's partial result for head `s`. -/
def lower (s : Fin 8) : Dev nD := ⟨s.val, by have := s.isLt; show _ < 16; omega⟩

theorem head_inb (s : Fin 8) : ∀ a, (![0, 0, s.val, 0] : Fin 4 → Nat) a + S8x1x1x64.size a ≤ S8x1x8x64.size a := by
  revert s; decide
/-- The rectangle of head `s` in the result. -/
abbrev headR (s : Fin 8) : Rect S8x1x8x64 := Rect.unit (s := S8x1x8x64) ![0, 0, s.val, 0] S8x1x1x64.size (head_inb s)

/-- Read the two partial results of head `s`, combine them and store the head's rows of the result. -/
def combineOp {α : Type} (a3 : Memref sig .tc .vmem S8x1x8x64 .f32) (s : Fin 8) (K : Kern F α) : Kern F α :=
  .op (.load commM (slotR (lower s)).toLoadRect (View.loadsAt_vmem h_S1x8x128)) fun v =>
  .op (.load commM (slotR (upper s)).toLoadRect (View.loadsAt_vmem h_S1x8x128)) fun w =>
  .op (.load a3 (headR s).toLoadRect (View.loadsAt_vmem h_S8x1x1x64)) fun _ =>
  .op (.store a3 (headR s) (combine v w) Finset.univ (View.stores_vmem_bits_univ h_S8x1x1x64 rfl) (.inl rfl)) fun _ => K

/-- The device numbers in order. -/
abbrev devs : List (Dev nD) := [0, 1, 2, 3, 4, 5, 6, 7, 8, 9, 10, 11, 12, 13, 14, 15]
/-- The heads in order. -/
abbrev heads : List (Fin 8) := [0, 1, 2, 3, 4, 5, 6, 7]

end Cert.KernelIdeal.Flash
-- ==== Proof.Protocol.lean ====
module

public import proofs.«01_k».proof.Proof.Prog
public import proofs.«01_k».proof.Proof.Gen.KernelIdeal.Launch
public import Idealize.ShloMosaic.Lib.Rounds
public import Idealize.ShloMosaic.Lib.MemrefSat
public import Idealize.ShloMosaic.Lib.ShareLeaves
public import Idealize.ShloMosaic.Lib.Pipeline.RegionTalk
public import Idealize.ShloMosaic.Harness.Basic

/-! # The protocol of the exchange

Sixteen devices. Each semaphore below is paid once, in its round 0.

* The barrier semaphore of device `c`: every other device `d` adds one unit when it has entered the
  kernel, and `c` waits for all fifteen. With its unit `d` hands over slot `c` of its own gathering
  buffer, and the fact that its landing semaphore number `c` is open.
* The semaphore of the own copy: device `c` copies its partial result into its own slot and waits at
  once. The landing hands back slot `c`, holding a result that is right for device `c`.
* Sending semaphore `j` of device `c`, for `j ≠ c`: the copy to device `j` pays it when it has left,
  handing back the share of the source that it read. `c` waits for it at the very end.
* Landing semaphore `i` of device `c`, for `i ≠ c`: the copy from device `i` pays it on landing,
  handing over slot `i` of `c`, holding a result that is right for device `i`.

Order on each device: fifteen signals, the barrier wait, the own copy and its wait, fifteen copies,
fifteen landing waits, fifteen sending waits. A wait on the barrier or on the own copy happens while
landings are still owed, so the landing semaphores sit at the highest level.

The contents are stated through a family `Good`: `Good i` says which contents of a slot are right for
device `i`. -/

@[expose] public section

noncomputable section

namespace Cert.KernelIdeal.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves
open Cert.KernelIdeal Cert.KernelIdeal.Gen

variable {F : FTy → Type} [FloatOps F]

/-- The ghost state: the staging pipeline's, and the exchange's, whose payers are devices. -/
abbrev UU : Type := URounds (GSem nD τ sig) Unit × URounds (GSem nD τ sig) (Dev nD)

local notation "𝕄" => MT nD τ sig Unit (Elt F) ℕ UU ℕ

/-- The pipeline's part of the ghost state. -/
abbrev EP : Emb (URounds (GSem nD τ sig) Unit) (MT nD τ sig Unit (Elt F) ℕ UU ℕ) := embL
/-- The exchange's part of the ghost state. -/
abbrev ER : Emb (URounds (GSem nD τ sig) (Dev nD)) (MT nD τ sig Unit (Elt F) ℕ UU ℕ) := embR

/-! ## Cells and amounts -/

/-- The barrier semaphore of device `c`. -/
abbrev barCell (c : Dev nD) : GSem nD τ sig := ((c : Thread nD τ), .reg barSem)
/-- The semaphore of device `c`'s copy into its own slot. -/
abbrev selfCell (c : Dev nD) : GSem nD τ sig := ((c : Thread nD τ), .dma selfSem)
/-- The semaphore of device `c` for the departure of its copy to device `j`. -/
abbrev sendCell (c j : Dev nD) : GSem nD τ sig := ((c : Thread nD τ), .dma (sendSem j))
/-- The semaphore of device `c` for the landing of device `i`'s partial result. -/
abbrev recvCell (c i : Dev nD) : GSem nD τ sig := ((c : Thread nD τ), .dma (recvSem i))

/-- What one copy of a partial result adds to a semaphore. -/
def N : ℕ := ownM.view.dmaCredit
theorem N_pos : 0 < N := View.dmaCredit_pos _ (by decide)
theorem slot_credit (i : Dev nD) : (slotM i).view.dmaCredit = N := rfl
theorem own_credit : ownM.view.dmaCredit = N := rfl

theorem self_ne_send : ∀ j : Dev nD, selfSem ≠ sendSem j := by decide +kernel
theorem self_ne_recv : ∀ j : Dev nD, selfSem ≠ recvSem j := by decide +kernel
theorem send_ne_recv : ∀ i j : Dev nD, sendSem j ≠ recvSem i := by decide +kernel
theorem send_inj : ∀ i j : Dev nD, sendSem i = sendSem j → i = j := by decide +kernel
theorem recv_inj : ∀ i j : Dev nD, recvSem i = recvSem j → i = j := by decide +kernel
theorem dma_ne_bar (s : DmaSem sig) : (SemLoc.dma s : SemLoc sig) ≠ .reg barSem := fun h => by cases h

/-- The predicates on the contents of one slot. -/
abbrev SlotPred (F : FTy → Type) : Type := (S8x128.Idx → Elt F .f32) → Prop

/-- Device `c` holds its slot `i` whole, at contents that satisfy `P`. -/
abbrev slotSat (c i : Dev nD) (P : SlotPred F) : sProp 𝕄 :=
  ownsSat (c : Thread nD τ) (slotM i) fullShare P
/-- Device `c` holds the share numbered `j` of its own partial result, at contents that satisfy `P`. -/
abbrev ownSat (c j : Dev nD) (P : SlotPred F) : sProp 𝕄 :=
  ownsSat (c : Thread nD τ) ownM (leaf 4 fullShare j) P
/-- Any contents. -/
abbrev anyP : SlotPred F := fun _ => True

/-! ## What each payment hands over -/

/-- From device `d` with its unit to the barrier of `c`. -/
def barPay (c d : Dev nD) : sProp 𝕄 := iprop(slotSat d c anyP ∗ reached ER (recvCell d c) 0)
/-- From the landing of device `i`'s partial result on `c`. -/
def recvPay (Good : Dev nD → SlotPred F) (c i : Dev nD) : sProp 𝕄 := slotSat c i (Good i)
/-- From the departure of the copy to device `j`. -/
def sendPay (c j : Dev nD) : sProp 𝕄 := ownSat c j anyP
/-- From the copy into the own slot. -/
def selfPay (Good : Dev nD → SlotPred F) (c : Dev nD) : sProp 𝕄 := iprop(slotSat c c (Good c) ∗ ownSat c c anyP)

variable (Good : Dev nD → SlotPred F)

/-- Who pays a semaphore of the exchange. -/
def payers (g : GSem nD τ sig) : Finset (Dev nD) :=
  if g.2 = .reg barSem then Finset.univ.erase g.1.1
  else if g.2 = .dma selfSem then {g.1.1}
  else (Finset.univ.erase g.1.1).filter fun j => g.2 = .dma (sendSem j) ∨ g.2 = .dma (recvSem j)

/-- The schedule: everything in round 0, a barrier unit from each other device, one copy at every other cell. -/
def sched : Rounds.Schedule (GSem nD τ sig) (Dev nD) 𝕄 where
  duties g r := if r = 0 ∧ g.1.2 = .tc then payers g else ∅
  unitless _ := False
  amount g _ _ := if g.2 = .reg barSem then 1 else N
  payload g _ d :=
    if g.2 = .reg barSem then barPay g.1.1 d
    else if g.2 = .dma selfSem then selfPay Good g.1.1
    else if g.2 = .dma (sendSem d) then sendPay g.1.1 d
    else recvPay Good g.1.1 d
  amount_pos g _ _ _ := by
    by_cases h : g.2 = .reg barSem
    · rw [if_pos h]; exact Nat.one_pos
    · rw [if_neg h]; exact N_pos

instance sched_storable (g : GSem nD τ sig) (r : ℕ) (d : Dev nD) :
    BI.Storable (upEmb : UEmb _ 𝕄) ((sched Good).payload g r d) := by
  show BI.Storable upEmb (if g.2 = .reg barSem then barPay g.1.1 d
    else if g.2 = .dma selfSem then selfPay Good g.1.1
    else if g.2 = .dma (sendSem d) then sendPay g.1.1 d
    else recvPay Good g.1.1 d)
  unfold barPay selfPay sendPay recvPay
  (repeat' split) <;> infer_instance

section Tables

variable (c i j : Dev nD)

theorem duties_bar : (sched Good).duties (barCell c) 0 = Finset.univ.erase c := by
  dsimp only [sched]; rw [if_pos ⟨rfl, rfl⟩]; unfold payers; exact if_pos rfl
theorem duties_self : (sched Good).duties (selfCell c) 0 = {c} := by
  dsimp only [sched]; rw [if_pos ⟨rfl, rfl⟩]; unfold payers; rw [if_neg (dma_ne_bar _)]; exact if_pos rfl
theorem duties_send (h : j ≠ c) : (sched Good).duties (sendCell c j) 0 = {j} := by
  dsimp only [sched]; rw [if_pos ⟨rfl, rfl⟩]; unfold payers
  rw [if_neg (dma_ne_bar _), if_neg (fun e => self_ne_send j (SemLoc.dma.inj e).symm)]
  ext i
  simp only [Finset.mem_filter, Finset.mem_erase, Finset.mem_univ, and_true, Finset.mem_singleton, SemLoc.dma.injEq]
  constructor
  · rintro ⟨-, e | e⟩
    · exact (send_inj _ _ e).symm
    · exact absurd e (send_ne_recv _ _)
  · rintro rfl; exact ⟨h, .inl rfl⟩
theorem duties_recv (h : i ≠ c) : (sched Good).duties (recvCell c i) 0 = {i} := by
  dsimp only [sched]; rw [if_pos ⟨rfl, rfl⟩]; unfold payers
  rw [if_neg (dma_ne_bar _), if_neg (fun e => self_ne_recv i (SemLoc.dma.inj e).symm)]
  ext j
  simp only [Finset.mem_filter, Finset.mem_erase, Finset.mem_univ, and_true, Finset.mem_singleton, SemLoc.dma.injEq]
  constructor
  · rintro ⟨-, e | e⟩
    · exact absurd e.symm (send_ne_recv _ _)
    · exact (recv_inj _ _ e).symm
  · rintro rfl; exact ⟨h, .inr rfl⟩
/-- The sending semaphore of the own number is never paid. -/
theorem duties_send_own : (sched Good).duties (sendCell c c) 0 = ∅ := by
  dsimp only [sched]; rw [if_pos ⟨rfl, rfl⟩]; unfold payers
  rw [if_neg (dma_ne_bar _), if_neg (fun e => self_ne_send c (SemLoc.dma.inj e).symm)]
  ext i
  simp only [Finset.mem_filter, Finset.mem_erase, Finset.mem_univ, and_true, SemLoc.dma.injEq, Finset.notMem_empty, iff_false]
  rintro ⟨h, e | e⟩
  · exact h (send_inj _ _ e).symm
  · exact send_ne_recv _ _ e
/-- The landing semaphore of the own number is never paid. -/
theorem duties_recv_own : (sched Good).duties (recvCell c c) 0 = ∅ := by
  dsimp only [sched]; rw [if_pos ⟨rfl, rfl⟩]; unfold payers
  rw [if_neg (dma_ne_bar _), if_neg (fun e => self_ne_recv c (SemLoc.dma.inj e).symm)]
  ext i
  simp only [Finset.mem_filter, Finset.mem_erase, Finset.mem_univ, and_true, SemLoc.dma.injEq, Finset.notMem_empty, iff_false]
  rintro ⟨h, e | e⟩
  · exact send_ne_recv _ _ e.symm
  · exact h (recv_inj _ _ e).symm
theorem duties_later (g : GSem nD τ sig) : ∀ r, 1 ≤ r → (sched Good).duties g r = ∅ := fun r hr => by
  dsimp only [sched]; exact if_neg (fun h => by omega)

theorem amount_bar (d : Dev nD) : (sched Good).amount (barCell c) 0 d = 1 := by dsimp only [sched]; exact if_pos rfl
theorem amount_dma (s : DmaSem sig) (r : ℕ) (d : Dev nD) : (sched Good).amount ((c : Thread nD τ), .dma s) r d = N := by
  dsimp only [sched]; exact if_neg (dma_ne_bar s)

theorem payload_bar (d : Dev nD) : (sched Good).payload (barCell c) 0 d = barPay c d := by
  dsimp only [sched]; exact if_pos rfl
theorem payload_self (d : Dev nD) : (sched Good).payload (selfCell c) 0 d = selfPay Good c := by
  dsimp only [sched]; rw [if_neg (dma_ne_bar _)]; exact if_pos rfl
theorem payload_send : (sched Good).payload (sendCell c j) 0 j = sendPay c j := by
  dsimp only [sched]
  rw [if_neg (dma_ne_bar _), if_neg (fun e => self_ne_send j (SemLoc.dma.inj e).symm)]; exact if_pos rfl
theorem payload_recv : (sched Good).payload (recvCell c i) 0 i = recvPay Good c i := by
  dsimp only [sched]
  rw [if_neg (dma_ne_bar _), if_neg (fun e => self_ne_recv i (SemLoc.dma.inj e).symm),
    if_neg (fun e => send_ne_recv i i (SemLoc.dma.inj e).symm)]

theorem expect_bar : (sched Good).expect (barCell c) 0 = 15 := by
  unfold Schedule.expect Schedule.amountOf
  rw [duties_bar, Finset.sum_congr rfl fun d _ => amount_bar Good c d, Finset.sum_const, Finset.card_erase_of_mem (Finset.mem_univ c)]
  rfl
theorem expect_self : (sched Good).expect (selfCell c) 0 = N := by
  unfold Schedule.expect Schedule.amountOf; rw [duties_self, Finset.sum_singleton, amount_dma]
theorem expect_send (h : j ≠ c) : (sched Good).expect (sendCell c j) 0 = N := by
  unfold Schedule.expect Schedule.amountOf; rw [duties_send Good c j h, Finset.sum_singleton, amount_dma]
theorem expect_recv (h : i ≠ c) : (sched Good).expect (recvCell c i) 0 = N := by
  unfold Schedule.expect Schedule.amountOf; rw [duties_recv Good c i h, Finset.sum_singleton, amount_dma]

theorem rest_bar : bigSep ((sched Good).duties (barCell c) 0 \ ∅) (fun d => (sched Good).payload (barCell c) 0 d)
    = bigSep (Finset.univ.erase c) (fun d => (barPay c d : sProp 𝕄)) := by
  rw [Finset.sdiff_empty, duties_bar]; exact bigSep_congr fun d _ => payload_bar Good c d
theorem rest_self : bigSep ((sched Good).duties (selfCell c) 0 \ ∅) (fun d => (sched Good).payload (selfCell c) 0 d)
    = selfPay Good c := by
  rw [Finset.sdiff_empty, duties_self, bigSep_singleton, payload_self]
theorem rest_send (h : j ≠ c) : bigSep ((sched Good).duties (sendCell c j) 0 \ ∅) (fun d => (sched Good).payload (sendCell c j) 0 d)
    = sendPay c j := by
  rw [Finset.sdiff_empty, duties_send Good c j h, bigSep_singleton, payload_send]
theorem rest_recv (h : i ≠ c) : bigSep ((sched Good).duties (recvCell c i) 0 \ ∅) (fun d => (sched Good).payload (recvCell c i) 0 d)
    = recvPay Good c i := by
  rw [Finset.sdiff_empty, duties_recv Good c i h, bigSep_singleton, payload_recv]

end Tables

/-! ## What a device owes, and the levels -/

/-- The unit that device `c` owes the barrier of device `j`. -/
def oweB (c j : Dev nD) : CellTallies nD τ sig Unit := if c = j then 0 else tallyAt (barCell j) () 1
/-- The landing that device `c` owes device `j`. -/
def oweR (c j : Dev nD) : CellTallies nD τ sig Unit := if c = j then 0 else tallyAt (recvCell j c) () N
/-- The landings owed to all devices. -/
def landings (c : Dev nD) : CellTallies nD τ sig Unit := (devs.map (oweR c)).sum
/-- All that device `c` owes at launch. -/
def O₀ (c : Dev nD) : CellTallies nD τ sig Unit := landings c + (devs.map (oweB c)).sum

/-- Every semaphore of a device's core has a level. -/
def L (g : GSem nD τ sig) : Finset Unit := if g.1.2 = .tc then {()} else ∅
/-- The barrier at 1, the landings at 2, the rest at 0. -/
def lv (g : GSem nD τ sig) (_ : Unit) : ℕ := if g.2 = .reg barSem then 1 else if (∃ i, g.2 = .dma (recvSem i)) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c i : Dev nD) (u : Unit) : lv (recvCell c i) u = 2 := by
  unfold lv; rw [if_neg (dma_ne_bar _)]; exact if_pos ⟨i, rfl⟩
theorem lv_self (c : Dev nD) (u : Unit) : lv (selfCell c) u = 0 := by
  unfold lv; rw [if_neg (dma_ne_bar _)]
  exact if_neg (fun ⟨i, e⟩ => self_ne_recv i (SemLoc.dma.inj e))

/-- A tally of a list of terms is positive only where one of the terms is. -/
theorem sum_pos {D : Type} (f : D → CellTallies nD τ sig Unit) (l : List D) {g : GSem nD τ sig} {u : Unit}
    (h : 0 < (l.map f).sum g u) : ∃ j, 0 < f j g u := by
  induction l with
  | nil => exact absurd h (Nat.lt_irrefl 0)
  | cons a l ih =>
    rw [List.map_cons, List.sum_cons, Pi.add_apply, Finsupp.add_apply] at h
    rcases Nat.add_pos_iff_pos_or_pos.mp h with h | h
    · exact ⟨a, h⟩
    · exact ih h

theorem tally_pos {g g' : GSem nD τ sig} {u : Unit} {n : ℕ} (h : 0 < (tallyAt g' () n : CellTallies nD τ sig Unit) g u) : g = g' := by
  rw [tallyAt_apply] at h
  split at h
  · next e => exact e.1
  · exact absurd h (Nat.lt_irrefl 0)

theorem landings_pos {c : Dev nD} {g : GSem nD τ sig} {u : Unit} (h : 0 < landings c g u) : ∃ j, g = recvCell j c := by
  obtain ⟨j, h⟩ := sum_pos _ _ h
  unfold oweR at h
  split at h
  · exact absurd h (Nat.lt_irrefl 0)
  · exact ⟨j, tally_pos h⟩

theorem O₀_pos {c : Dev nD} {g : GSem nD τ sig} {u : Unit} (h : 0 < O₀ c g u) : (∃ j, g = recvCell j c) ∨ ∃ j, g = barCell j := by
  unfold O₀ at h
  rw [Pi.add_apply, Finsupp.add_apply] at h
  rcases Nat.add_pos_iff_pos_or_pos.mp h with h | h
  · exact .inl (landings_pos h)
  · obtain ⟨j, h⟩ := sum_pos _ _ h
    unfold oweB at h
    split at h
    · exact absurd h (Nat.lt_irrefl 0)
    · exact .inr ⟨j, tally_pos h⟩

/-- A wait below the landings' level is allowed while landings are owed. -/
theorem mayWait_low (c : Dev nD) (sm : SemLoc sig) (h : lv ((c : Thread nD τ), sm) () ≤ 1) :
    (levAts L lv : sProp 𝕄) ⊢ MayWait (c : Thread nD τ) sm () (landings c) :=
  MayOwe.of_cut (L := L) (lev := lv) 1 (fun p hp => by rw [Finset.mem_singleton.mp hp, L_tc]; exact Finset.mem_singleton_self _)
    (fun g u hg => by
      obtain ⟨j, rfl⟩ := landings_pos hg
      rw [L_tc]; exact Finset.mem_singleton_self _)
    (fun p hp => by rw [Finset.mem_singleton.mp hp]; exact h)
    (fun g u hg => by
      obtain ⟨j, rfl⟩ := landings_pos hg
      rw [lv_recv]; decide)

/-! ## The cells' invariants -/

/-- The semaphores of the exchange that belong to the kernel's run alone: the own copy's, the sixteen sending and the
    sixteen landing semaphores. -/
abbrev osem : Fin 33 → SemLoc sig := fun k => .dma ⟨4 + k.val, by have := k.isLt; show _ < 37; omega⟩

/-- The barrier cells. -/
def barEmb : Dev nD ↪ GSem nD τ sig := ⟨fun c => barCell c, fun _ _ h => congrArg (fun g : GSem nD τ sig => g.1.1) h⟩
theorem osem_inj : Function.Injective osem := by decide +kernel
/-- The kernel's own cells, device by device. -/
def scEmb : Dev nD × Fin 33 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact dma_ne_bar _ (congrArg Prod.snd h)

/-- Where each own semaphore stands among the thirty-three. -/
def selfK : Fin 33 := 0
def sendK (j : Dev nD) : Fin 33 := ⟨1 + j.val, by have h : j.val < 16 := j.isLt; omega⟩
def recvK (i : Dev nD) : Fin 33 := ⟨17 + i.val, by have h : i.val < 16 := i.isLt; omega⟩
theorem osem_self : osem selfK = .dma selfSem := by decide +kernel
theorem osem_send : ∀ j, osem (sendK j) = .dma (sendSem j) := by decide +kernel
theorem osem_recv : ∀ i, osem (recvK i) = .dma (recvSem i) := by decide +kernel

theorem bar_mem (c : Dev nD) : barCell c ∈ (barCells ∪ scCells : Finset (GSem nD τ sig)) :=
  Finset.mem_union_left _ (Finset.mem_map_of_mem barEmb (Finset.mem_univ c))
theorem own_mem (c : Dev nD) (k : Fin 33) : ((c : Thread nD τ), osem k) ∈ (barCells ∪ scCells : Finset (GSem nD τ sig)) :=
  Finset.mem_union_right _ (Finset.mem_map_of_mem scEmb (Finset.mem_univ (c, k)))
theorem self_mem (c : Dev nD) : selfCell c ∈ (barCells ∪ scCells : Finset (GSem nD τ sig)) := by
  have h := own_mem c selfK
  rwa [osem_self] at h
theorem send_mem (c j : Dev nD) : sendCell c j ∈ (barCells ∪ scCells : Finset (GSem nD τ sig)) := by
  have h := own_mem c (sendK j)
  rwa [osem_send] at h
theorem recv_mem (c i : Dev nD) : recvCell c i ∈ (barCells ∪ scCells : Finset (GSem nD τ sig)) := by
  have h := own_mem c (recvK i)
  rwa [osem_recv] at h

/-- What every device may consult: all the invariants, and that round 0 of every barrier is open. -/
def records (κ : GSem nD τ sig → ℕ) : sProp 𝕄 :=
  iprop((bigSep (barCells ∪ scCells) fun g => cellInv ER (sched Good) (κ g) g) ∗ bigSep barCells fun g => reached ER g 0)

instance records_persistent (κ : GSem nD τ sig → ℕ) : BI.Persistent (records Good κ) := by unfold records; infer_instance

theorem inv_at (κ : GSem nD τ sig → ℕ) {g : GSem nD τ sig} (hg : g ∈ (barCells ∪ scCells : Finset (GSem nD τ sig))) :
    records Good κ ⊢ cellInv ER (sched Good) (κ g) g := by
  unfold records
  iintro ⟨H, -⟩
  iapply (show (bigSep (barCells ∪ scCells) fun g => (cellInv ER (sched Good) (κ g) g : sProp 𝕄)) ⊢ cellInv ER (sched Good) (κ g) g
    from bigSep_elim hg); iexact H

theorem reached_at (κ : GSem nD τ sig → ℕ) (c : Dev nD) : records Good κ ⊢ reached ER (barCell c) 0 := by
  unfold records
  iintro ⟨-, H⟩
  iapply (show (bigSep barCells fun g => (reached ER g 0 : sProp 𝕄)) ⊢ reached ER (barCell c) 0
    from bigSep_elim (Finset.mem_map_of_mem barEmb (Finset.mem_univ c))); iexact H

/-- A cell that has seen all its payments gives its counter back at zero. -/
theorem close_at (κ : GSem nD τ sig → ℕ) {g : GSem nD τ sig} (hg : g ∈ (barCells ∪ scCells : Finset (GSem nD τ sig))) (R : ℕ)
    (hR : ∀ r, R ≤ r → (sched Good).duties g r = ∅) :
    iprop(records Good κ ∗ atPos ER g R ∅ 0) ⊢ (|={Set.univ}=> semVal g 0 : sProp 𝕄) := by
  iintro ⟨#HR, Hat⟩
  iapply (Rounds.cell_close ER (sched Good) (Set.mem_univ (κ g)) id hR)
  isplitr
  · iapply (inv_at Good κ hg); iexact HR
  iexact Hat

theorem send_closed (c j : Dev nD) : ∀ r, (if c = j then 0 else 1) ≤ r → (sched Good).duties (sendCell c j) r = ∅ := fun r hr => by
  by_cases h : c = j
  · subst h
    rcases Nat.eq_zero_or_pos r with rfl | h0
    · exact duties_send_own Good c
    · exact duties_later Good _ r h0
  · rw [if_neg h] at hr; exact duties_later Good _ r hr
theorem recv_closed (c i : Dev nD) : ∀ r, (if c = i then 0 else 1) ≤ r → (sched Good).duties (recvCell c i) r = ∅ := fun r hr => by
  by_cases h : c = i
  · subst h
    rcases Nat.eq_zero_or_pos r with rfl | h0
    · exact duties_recv_own Good c
    · exact duties_later Good _ r h0
  · rw [if_neg h] at hr; exact duties_later Good _ r hr

end Cert.KernelIdeal.Flash

end
-- ==== Proof.Steps.lean ====
module

public import proofs.«01_k».proof.Proof.Protocol

/-! # The steps of the exchange

One lemma for each kind of step at a symbolic device `c` and partner `j`, and one lemma that carries
such a step through a walk over all devices. -/

@[expose] public section

noncomputable section

namespace Cert.KernelIdeal.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves
open Cert.KernelIdeal Cert.KernelIdeal.Gen

variable {F : FTy → Type} [FloatOps F]

local notation "𝕄" => MT nD τ sig Unit (Elt F) ℕ UU ℕ

/-- No loop of the kernel needs a measure. -/
abbrev 𝒱₀ : Variants := Variants.none

/-- Running a program of device `c` to its end establishes `Q`. -/
abbrev runs (c : Dev nD) (p : Kern F PUnit) (Q : PUnit.{1} → sProp 𝕄) : sProp 𝕄 :=
  wp frame (wpE (defs₀ (F := F)) 𝒱₀ (c : Thread nD τ) none) Set.univ p Q

theorem sepL_cons {I : Type} (i : I) (l : List I) (Φ : I → sProp 𝕄) :
    bigSepL (i :: l) Φ = iprop(Φ i ∗ bigSepL l Φ) := bigSepL_cons i l Φ

/-- A slot's contents made explicit. -/
theorem slotSat_eq (c i : Dev nD) (P : SlotPred F) : (slotSat c i P : sProp 𝕄)
    = iprop(∃ f, ⌜P ((slotM i).view.read (Elt F) f)⌝ ∗ ((slotM i).view.loc (c : Thread nD τ) ↦[(slotM i).view.set]{fullShare} f)) := rfl
/-- The own partial result's contents made explicit. -/
theorem ownSat_eq (c j : Dev nD) (P : SlotPred F) : (ownSat c j P : sProp 𝕄)
    = iprop(∃ f, ⌜P (ownM.view.read (Elt F) f)⌝ ∗ (ownM.view.loc (c : Thread nD τ) ↦[ownM.view.set]{leaf 4 fullShare j} f)) := rfl

/-- A wait for a landing takes one copy's worth. -/
theorem slot_wait (c i : Dev nD) (s : DmaSem sig) (hw : ownM.view.WordExact) (hw' : (slotM i).view.WordExact) (K : PUnit.{1} → sProp 𝕄) :
    wpE (defs₀ (F := F)) 𝒱₀ (c : Thread nD τ) none Set.univ (.waitDma2 s ownM (slotM i) hw hw') K
      = waitSpec (c : Thread nD τ) Set.univ (.dma s) N K := by
  rw [← slot_credit i]; exact wpE_waitDma2_eq 𝒱₀ (c : Thread nD τ) none Set.univ K
/-- A wait for a departure takes one copy's worth. -/
theorem own_wait (c i : Dev nD) (s : DmaSem sig) (hw : ownM.view.WordExact) (hw' : (slotM i).view.WordExact) (K : PUnit.{1} → sProp 𝕄) :
    wpE (defs₀ (F := F)) 𝒱₀ (c : Thread nD τ) none Set.univ (.waitDma2 s (slotM i) ownM hw' hw) K
      = waitSpec (c : Thread nD τ) Set.univ (.dma s) N K := by
  rw [← own_credit]; exact wpE_waitDma2_eq 𝒱₀ (c : Thread nD τ) none Set.univ K

/-- A walk: each step takes its own resource and the state before it, and leaves its own result and the
    state after it; so the walk takes all the resources and leaves all the results. -/
theorem walk {I : Type} (c : Dev nD) (Q : PUnit.{1} → sProp 𝕄) (op : I → Kern F PUnit → Kern F PUnit)
    (E : List I → sProp 𝕄) (pre post : I → sProp 𝕄)
    (step : ∀ (a : I) (l : List I) (K : Kern F PUnit),
      iprop(E (a :: l) ∗ pre a) ⊢ iprop((E l ∗ post a -∗ runs c K Q) -∗ runs c (op a K) Q))
    (K : Kern F PUnit) (l : List I) :
    iprop(E l ∗ bigSepL l pre) ⊢ iprop((E [] ∗ bigSepL l post -∗ runs c K Q) -∗ runs c (l.foldr op K) Q) := by
  induction l with
  | nil =>
    rw [bigSepL_nil, bigSepL_nil, List.foldr_nil]
    iintro H HK; iapply HK; iexact H
  | cons a l ih =>
    rw [sepL_cons, sepL_cons, List.foldr_cons]
    iintro ⟨HE, Ha, Hl⟩ HK
    iapply (step a l (l.foldr op K)) $$ [HE Ha]
    · isplitl [HE] <;> iassumption
    iintro ⟨HE, Hp⟩
    iapply ih $$ [HE Hl]
    · isplitl [HE] <;> iassumption
    iintro ⟨HE, Hps⟩
    iapply HK
    isplitl [HE]; · iexact HE
    isplitl [Hp] <;> iassumption

/-- A resource over all devices, device by device. -/
theorem over_devs (Φ : Dev nD → sProp 𝕄) : bigSep Finset.univ Φ = bigSepL devs Φ :=
  bigSep_univ_eq_bigSepL devs (by decide) (by decide) Φ

/-- The device's own part of a family, and the others' parts. -/
theorem split_own (c : Dev nD) (Φ : Dev nD → sProp 𝕄) :
    bigSep Finset.univ Φ = iprop(Φ c ∗ bigSep Finset.univ fun j => if c = j then iprop(emp) else Φ j) := by
  have h : (bigSep Finset.univ fun j => if c = j then iprop(emp) else Φ j : sProp 𝕄) = bigSep (Finset.univ.erase c) Φ := by
    rw [bigSep_univ_at _ c, if_pos rfl, bigSep_congr (s := Finset.univ.erase c) (Ψ := Φ)
      fun j hj => if_neg (Finset.ne_of_mem_erase hj).symm]
    exact BI.equiv_iff.mp emp_sep
  rw [h, bigSep_univ_at _ c]

theorem erase_own (c : Dev nD) (Φ : Dev nD → sProp 𝕄) :
    bigSep (Finset.univ.erase c) Φ = bigSep Finset.univ fun j => if c = j then iprop(emp) else Φ j := by
  rw [bigSep_univ_at (fun j => if c = j then iprop(emp) else Φ j) c, if_pos rfl, bigSep_congr (s := Finset.univ.erase c) (Ψ := Φ)
      fun j hj => if_neg (Finset.ne_of_mem_erase hj).symm]
  exact (BI.equiv_iff.mp emp_sep).symm

/-- A family that has only the device's own part. -/
theorem only_own (c : Dev nD) (X : sProp 𝕄) :
    (bigSep Finset.univ fun j => if c = j then X else iprop(emp)) = X := by
  rw [bigSep_univ_at _ c, if_pos rfl,
    show (bigSep (Finset.univ.erase c) fun j => if c = j then X else iprop(emp)) = BI.emp from
      (bigSep_congr (Ψ := fun _ => (BI.emp : sProp 𝕄)) fun j hj => if_neg (Finset.ne_of_mem_erase hj).symm).trans (BI.bigSep_emp_const _)]
  exact BI.equiv_iff.mp sep_emp

variable (Good : Dev nD → SlotPred F) (κ : GSem nD τ sig → ℕ) (c : Dev nD)

/-! ## The signals -/

/-- Before the signals to the devices of `l`. -/
def sigE (l : List (Dev nD)) : sProp 𝕄 :=
  iprop(records Good κ ∗ ∃ W, owes (c : Thread nD τ) (landings c + (l.map (oweB c)).sum) W)
/-- What the signal to `j` takes: the right to pay, slot `j`, and that landing semaphore `j` is open. -/
def sigPre (j : Dev nD) : sProp 𝕄 :=
  iprop(dutyTok ER (barCell j) 0 c ∗ slotSat c j anyP ∗ reached ER (recvCell c j) 0)
/-- What it leaves: nothing, but the own slot where there is no signal. -/
def sigPost (j : Dev nD) : sProp 𝕄 := if c = j then slotSat c c anyP else iprop(emp)

theorem sig_step (Q : PUnit.{1} → sProp 𝕄) (j : Dev nD) (l : List (Dev nD)) (K : Kern F PUnit) :
    iprop(sigE Good κ c (j :: l) ∗ sigPre c j)
      ⊢ iprop((sigE Good κ c l ∗ sigPost c j -∗ runs c K Q) -∗ runs c (sigOp c j K) Q) := by
  unfold sigE sigPre sigPost sigOp unlessSelf
  by_cases h : c = j
  · subst h
    rw [if_pos rfl, if_pos rfl, List.map_cons, List.sum_cons, oweB, if_pos rfl, zero_add]
    iintro ⟨HE, -, Hs, -⟩ HK
    iapply HK
    isplitl [HE] <;> iassumption
  · rw [if_neg h, if_neg h, List.map_cons, List.sum_cons, oweB, if_neg h]
    iintro ⟨⟨#HR, ⟨%W, HO⟩⟩, Ht, Hs, Hr⟩ HK
    iapply (Rounds.wp_signal 𝒱₀ ER (sched Good) (c : Thread nD τ) none (dst := (j : Thread nD τ)) (sem := barSem) (r := 0) (d := c) (κ := κ (barCell j))
        (O₀ := landings c + (tallyAt (barCell j) () 1 + (l.map (oweB c)).sum))
        (by rw [duties_bar]; exact Finset.mem_erase.mpr ⟨h, Finset.mem_univ _⟩) (amount_bar Good j c) () (landings c + (l.map (oweB c)).sum)
        (by rw [add_comm (tallyAt _ _ _), add_assoc])) $$ [HO Ht Hs Hr]
    · isplitr; · iapply (inv_at Good κ (bar_mem j)); iexact HR
      isplitl [HO]; · iexact HO
      isplitl [Ht]; · iexact Ht
      isplitl [Hs Hr]
      · rw [payload_bar]; unfold barPay
        isplitl [Hs] <;> iassumption
      · iapply (reached_at Good κ j); iexact HR
    iintro HO
    iapply HK
    isplitl [HO]
    · isplitr; · iexact HR
      iexists W; iexact HO
    iempintro

/-! ## The barrier wait -/

theorem bar_step (Q : PUnit.{1} → sProp 𝕄) (W : Waits sig Unit) (K : PUnit.{1} → Kern F PUnit) :
    iprop(records Good κ ∗ levAts L lv ∗ cred (tallyAt (barCell c) () 15) ∗ owes (c : Thread nD τ) (landings c) W ∗ atPos ER (barCell c) 0 ∅ 0)
      ⊢ iprop(((∃ W', owes (c : Thread nD τ) (landings c) W') ∗ atPos ER (barCell c) 1 ∅ 0
            ∗ (bigSep Finset.univ fun d => if c = d then iprop(emp) else barPay c d) -∗ runs c (K ⟨⟩) Q)
        -∗ runs c (.op (.semWait barSem 15) K) Q) := by
  iintro ⟨#HR, #Hlev, Hc, HO, Hat⟩ HK
  iapply (Rounds.wp_wait_rest_token 𝒱₀ ER (sched Good) (c : Thread nD τ) none (κ := κ (barCell c))
      (wpE_semWait_eq 𝒱₀ (c : Thread nD τ) none Set.univ) (Set.mem_univ _) () (O := landings c) (W := W) (R := 0) (m := 0) (T := ∅)
      ((Nat.zero_add 15).trans (expect_bar Good c).symm)) $$ [Hc HO Hat]
  · isplitr; · iapply (inv_at Good κ (bar_mem c)); iexact HR
    isplitl [Hc]; · iexact Hc
    isplitl [HO]; · iexact HO
    isplitr; · iapply (mayWait_low c (.reg barSem) (by rw [lv_bar])); iexact Hlev
    iexact Hat
  iintro ⟨HO, Hat, -, Hpay⟩
  ihave Hp := (Entails.of_eq ((rest_bar Good c).trans (erase_own c _))) $$ Hpay
  iapply HK
  isplitl [HO]; · iexists _; iexact HO
  isplitl [Hat]; · iexact Hat
  iexact Hp

/-! ## The copy into the own slot -/

theorem self_step (Q : PUnit.{1} → sProp 𝕄) (hG : ∀ f g, Good c (ownM.view.read (Elt F) f) →
      Good c ((slotM c).view.read (Elt F) ((slotM c).view.write (Elt F) g (ownM.view.read (Elt F) f) Finset.univ)))
    (W : Waits sig Unit) (K : PUnit.{1} → Kern F PUnit)
    (hw : ownM.view.WordExact) (hw' : (slotM c).view.WordExact)
    (ht : DmaTarget.Typed (nD := nD) (τ := τ) (p := .tc) (sig := sig) (sp := .vmem) (SemLoc.dma selfSem) (.here (slotM c))) :
    iprop(records Good κ ∗ levAts L lv ∗ owes (c : Thread nD τ) (landings c) W ∗ atPos ER (selfCell c) 0 ∅ 0
        ∗ reached ER (selfCell c) 0 ∗ dutyTok ER (selfCell c) 0 c ∗ slotSat c c anyP ∗ ownSat c c (Good c))
      ⊢ iprop(((∃ W', owes (c : Thread nD τ) (landings c) W') ∗ atPos ER (selfCell c) 1 ∅ 0
            ∗ slotSat c c (Good c) ∗ ownSat c c anyP -∗ runs c (K ⟨⟩) Q)
        -∗ runs c (.op (.enqueueDma ownM (.here (slotM c)) (.dma selfSem) hw hw' ht) fun _ =>
            .op (.waitDma2 selfSem ownM (slotM c) hw hw') K) Q) := by
  rw [slotSat_eq c c anyP, ownSat_eq c c (Good c)]
  iintro ⟨#HR, #Hlev, HO, Hat, Hr, Ht, ⟨%fd, -, Hd⟩, ⟨%fs, %hfs, Hs⟩⟩ HK
  iapply (Rounds.wp_copy_pointsTo 𝒱₀ ER (sched Good) (c : Thread nD τ) none (src := ownM) (dst := slotM c) (sem := .dma selfSem) (q := leaf 4 fullShare c)
      (fs := fs) (fd := fd) (r := 0) (d := c) (κ := κ (selfCell c))
      (by rw [duties_self]; exact Finset.mem_singleton_self _) () N rfl (amount_dma Good c selfSem 0 c)
      (by
        rw [payload_self]; unfold selfPay
        iintro ⟨Hd, Hs⟩
        isplitl [Hd]
        · rw [slotSat_eq]; iexists _; isplitr; · ipureintro; exact hG fs fd hfs
          iexact Hd
        · rw [ownSat_eq]; iexists fs; isplitr; · ipureintro; trivial
          iexact Hs)) $$ [Hs Hd Ht Hr]
  · isplitr; · iapply (inv_at Good κ (self_mem c)); iexact HR
    isplitl [Hs]; · iexact Hs
    isplitl [Hd]; · iexact Hd
    isplitl [Ht] <;> iassumption
  iintro Hc
  iapply (Rounds.wp_wait_rest_token 𝒱₀ ER (sched Good) (c : Thread nD τ) none (κ := κ (selfCell c))
      (slot_wait c c selfSem _ _) (Set.mem_univ _) () (O := landings c) (W := W) (R := 0) (m := 0) (T := ∅)
      ((Nat.zero_add _).trans (expect_self Good c).symm)) $$ [Hc HO Hat]
  · isplitr; · iapply (inv_at Good κ (self_mem c)); iexact HR
    isplitl [Hc]; · iexact Hc
    isplitl [HO]; · iexact HO
    isplitr; · iapply (mayWait_low c (.dma selfSem) (by rw [lv_self]; decide)); iexact Hlev
    iexact Hat
  iintro ⟨HO, Hat, -, Hpay⟩
  ihave Hp := (Entails.of_eq (rest_self Good c)) $$ Hpay
  unfold selfPay
  icases Hp with ⟨Hd, Hs⟩
  iapply HK
  isplitl [HO]; · iexists _; iexact HO
  isplitl [Hat]; · iexact Hat
  isplitl [Hd] <;> iassumption

/-! ## The copies to the other devices -/

/-- Before the copies to the devices of `l`. -/
def sendE (l : List (Dev nD)) : sProp 𝕄 :=
  iprop(records Good κ ∗ ∃ W, owes (c : Thread nD τ) ((l.map (oweR c)).sum) W)
/-- What the copy to `j` takes: `j`'s slot and open semaphore, the two rights to pay, a share of the source. -/
def sendPre (j : Dev nD) : sProp 𝕄 :=
  iprop((if c = j then iprop(emp) else barPay c j) ∗ (if c = j then iprop(emp) else ownSat c j (Good c))
    ∗ dutyTok ER (recvCell j c) 0 c ∗ dutyTok ER (sendCell c j) 0 j ∗ reached ER (sendCell c j) 0)
/-- What it leaves: the right to wait for the departure. -/
def sendPost (j : Dev nD) : sProp 𝕄 := if c = j then iprop(emp) else cred (tallyAt (sendCell c j) () N)

theorem send_step (Q : PUnit.{1} → sProp 𝕄) (hG : ∀ f g, Good c (ownM.view.read (Elt F) f) →
      Good c ((slotM c).view.read (Elt F) ((slotM c).view.write (Elt F) g (ownM.view.read (Elt F) f) Finset.univ)))
    (j : Dev nD) (l : List (Dev nD)) (K : Kern F PUnit) :
    iprop(sendE Good κ c (j :: l) ∗ sendPre Good c j)
      ⊢ iprop((sendE Good κ c l ∗ sendPost c j -∗ runs c K Q) -∗ runs c (sendOp c j K) Q) := by
  unfold sendE sendPre sendPost sendOp unlessSelf
  by_cases h : c = j
  · subst h
    rw [if_pos rfl, if_pos rfl, if_pos rfl, if_pos rfl, List.map_cons, List.sum_cons, oweR, if_pos rfl, zero_add]
    iintro ⟨HE, -⟩ HK
    iapply HK
    isplitl [HE]; · iexact HE
    iempintro
  · rw [if_neg h, if_neg h, if_neg h, if_neg h, List.map_cons, List.sum_cons, oweR, if_neg h]
    unfold barPay
    rw [slotSat_eq j c anyP, ownSat_eq c j (Good c)]
    iintro ⟨⟨#HR, ⟨%W, HO⟩⟩, ⟨⟨%fd, -, Hd⟩, Hrj⟩, ⟨%fs, %hfs, Hs⟩, Htr, Hts, Hrs⟩ HK
    iapply (Rounds.wp_send_pointsTo 𝒱₀ ER (sched Good) (c : Thread nD τ) none (c' := (j : Thread nD τ)) (src := ownM) (dst := slotM c)
        (sS := .dma (sendSem j)) (sem := .dma (recvSem c)) (q := leaf 4 fullShare j) (fs := fs) (κ₁ := κ (sendCell c j)) (κ₂ := κ (recvCell j c))
        (r₁ := 0) (r₂ := 0) (d₁ := j) (d₂ := c) (fd := fd)
        (by rw [duties_send Good c j (Ne.symm h)]; exact Finset.mem_singleton_self _) (by rw [duties_recv Good j c h]; exact Finset.mem_singleton_self _)
        () () N rfl (amount_dma Good c _ 0 j) (amount_dma Good j _ 0 c) ((l.map (oweR c)).sum) (add_comm _ _) (W := W)
        (by
          rw [payload_send]; unfold sendPay
          rw [ownSat_eq]; iintro Hs; iexists fs; isplitr; · ipureintro; trivial
          iexact Hs)
        (by
          rw [payload_recv]; unfold recvPay
          rw [slotSat_eq]; iintro Hd; iexists _; isplitr; · ipureintro; exact hG fs fd hfs
          iexact Hd)) $$ [Hs Hd HO Hts Hrs Htr Hrj]
    · isplitr; · iapply (inv_at Good κ (send_mem c j)); iexact HR
      isplitr; · iapply (inv_at Good κ (recv_mem j c)); iexact HR
      isplitl [Hs]; · iexact Hs
      isplitl [Hd]; · iexact Hd
      isplitl [HO]; · iexact HO
      isplitl [Hts]; · iexact Hts
      isplitl [Hrs]; · iexact Hrs
      isplitl [Htr] <;> iassumption
    iintro ⟨Hc, HO⟩
    iapply HK
    isplitl [HO]
    · isplitr; · iexact HR
      iexists W; iexact HO
    iexact Hc

/-! ## The waits for the landings and for the departures -/

/-- While nothing is owed any more. -/
def quietE : sProp 𝕄 := iprop(records Good κ ∗ ∃ W, owes (c : Thread nD τ) (0 : CellTallies nD τ sig Unit) W)

/-- What the wait for `i`'s landing takes. -/
def recvPre (i : Dev nD) : sProp 𝕄 :=
  iprop((if c = i then iprop(emp) else cred (tallyAt (recvCell c i) () N)) ∗ atPos ER (recvCell c i) 0 ∅ 0)
/-- What it leaves: slot `i`, holding what is right for device `i`. -/
def recvPost (i : Dev nD) : sProp 𝕄 :=
  iprop(atPos ER (recvCell c i) (if c = i then 0 else 1) ∅ 0 ∗ if c = i then iprop(emp) else slotSat c i (Good i))

theorem recv_step (Q : PUnit.{1} → sProp 𝕄) (i : Dev nD) (l : List (Dev nD)) (K : Kern F PUnit) :
    iprop(quietE Good κ c ∗ recvPre c i)
      ⊢ iprop((quietE Good κ c ∗ recvPost Good c i -∗ runs c K Q) -∗ runs c (recvOp c i K) Q) := by
  unfold quietE recvPre recvPost recvOp unlessSelf
  by_cases h : c = i
  · subst h
    rw [if_pos rfl, if_pos rfl, if_pos rfl, if_pos rfl]
    iintro ⟨HE, -, Hat⟩ HK
    iapply HK
    isplitl [HE]; · iexact HE
    isplitl [Hat]; · iexact Hat
    iempintro
  · rw [if_neg h, if_neg h, if_neg h, if_neg h]
    iintro ⟨⟨#HR, ⟨%W, HO⟩⟩, Hc, Hat⟩ HK
    iapply (Rounds.wp_wait_rest_token 𝒱₀ ER (sched Good) (c : Thread nD τ) none (κ := κ (recvCell c i))
        (slot_wait c i (recvSem i) _ _) (Set.mem_univ _) () (O := 0) (W := W) (R := 0) (m := 0) (T := ∅)
        ((Nat.zero_add _).trans (expect_recv Good c i (Ne.symm h)).symm)) $$ [Hc HO Hat]
    · isplitr; · iapply (inv_at Good κ (recv_mem c i)); iexact HR
      isplitl [Hc]; · iexact Hc
      isplitl [HO]; · iexact HO
      isplitr; · rw [MayWait_zero]; iempintro
      iexact Hat
    iintro ⟨HO, Hat, -, Hpay⟩
    ihave Hp := (Entails.of_eq ((rest_recv Good c i (Ne.symm h)).trans (by unfold recvPay; rfl))) $$ Hpay
    iapply HK
    isplitl [HO]
    · isplitr; · iexact HR
      iexists _; iexact HO
    isplitl [Hat] <;> iassumption

/-- What the wait for the departure to `j` takes. -/
def drainPre (j : Dev nD) : sProp 𝕄 :=
  iprop((if c = j then iprop(emp) else cred (tallyAt (sendCell c j) () N)) ∗ atPos ER (sendCell c j) 0 ∅ 0)
/-- What it leaves: the share of the source that the copy read. -/
def drainPost (j : Dev nD) : sProp 𝕄 :=
  iprop(atPos ER (sendCell c j) (if c = j then 0 else 1) ∅ 0 ∗ if c = j then iprop(emp) else ownSat c j anyP)

theorem drain_step (Q : PUnit.{1} → sProp 𝕄) (j : Dev nD) (l : List (Dev nD)) (K : Kern F PUnit) :
    iprop(quietE Good κ c ∗ drainPre c j)
      ⊢ iprop((quietE Good κ c ∗ drainPost c j -∗ runs c K Q) -∗ runs c (drainOp c j K) Q) := by
  unfold quietE drainPre drainPost drainOp unlessSelf
  by_cases h : c = j
  · subst h
    rw [if_pos rfl, if_pos rfl, if_pos rfl, if_pos rfl]
    iintro ⟨HE, -, Hat⟩ HK
    iapply HK
    isplitl [HE]; · iexact HE
    isplitl [Hat]; · iexact Hat
    iempintro
  · rw [if_neg h, if_neg h, if_neg h, if_neg h]
    iintro ⟨⟨#HR, ⟨%W, HO⟩⟩, Hc, Hat⟩ HK
    iapply (Rounds.wp_wait_rest_token 𝒱₀ ER (sched Good) (c : Thread nD τ) none (κ := κ (sendCell c j))
        (own_wait c j (sendSem j) _ _) (Set.mem_univ _) () (O := 0) (W := W) (R := 0) (m := 0) (T := ∅)
        ((Nat.zero_add _).trans (expect_send Good c j (Ne.symm h)).symm)) $$ [Hc HO Hat]
    · isplitr; · iapply (inv_at Good κ (send_mem c j)); iexact HR
      isplitl [Hc]; · iexact Hc
      isplitl [HO]; · iexact HO
      isplitr; · rw [MayWait_zero]; iempintro
      iexact Hat
    iintro ⟨HO, Hat, -, Hpay⟩
    ihave Hp := (Entails.of_eq ((rest_send Good c j (Ne.symm h)).trans (by unfold sendPay; rfl))) $$ Hpay
    iapply HK
    isplitl [HO]
    · isplitr; · iexact HR
      iexists _; iexact HO
    isplitl [Hat] <;> iassumption

end Cert.KernelIdeal.Flash

end
-- ==== Proof.Payload.lean ====
module

public import proofs.«01_k».proof.Proof.Protocol

/-! # What the exchanged slots hold

A partial result fills columns 0 to 65 of its slot: 64 columns of weighted sums, one of largest scores, one
of sums of exponentials. The columns from 66 on are never written and hold anything. -/

@[expose] public section

noncomputable section

namespace Cert.KernelIdeal.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves
open Cert.KernelIdeal Cert.KernelIdeal.Gen

variable {F : FTy → Type} [FloatOps F]

local notation "𝕄" => MT nD τ sig Unit (Elt F) ℕ UU ℕ

/-! ## The columns of a partial result -/

/-- The columns of the weighted sums. -/
abbrev oR : Rect S8x128 := Rect.unit (s := S8x128) ![0, 0] S8x64.size inb_S8x128_S8x64_0_0
/-- The column of the largest scores. -/
abbrev mR : Rect S8x128 := Rect.unit (s := S8x128) ![0, 64] S8x1.size inb_S8x128_S8x1_0_64
/-- The column of the sums of exponentials. -/
abbrev lR : Rect S8x128 := Rect.unit (s := S8x128) ![0, 65] S8x1.size inb_S8x128_S8x1_0_65

/-- One device's partial result: weighted sums, largest scores, sums of exponentials. -/
structure Part (F : FTy → Type) where
  /-- The weighted sums. -/
  o : FVec F S8x64 .f32
  /-- The largest scores. -/
  mx : FVec F S8x1 .f32
  /-- The sums of the exponentials. -/
  l : FVec F S8x1 .f32

/-- The slot's contents hold the partial result in their first 66 columns. -/
def Fits (p : Part F) (X : S8x128.Idx → Elt F .f32) : Prop :=
  (∀ x, X (oR.emb x) = p.o x) ∧ (∀ x, X (mR.emb x) = p.mx x) ∧ ∀ x, X (lR.emb x) = p.l x

/-- The partial result device `d` computes from the query and its keys and values. -/
def partOf (d : Dev nD) (q : Vec F S8x1x8x64 .bf16) (k v : Vec F S8x1x64x512 .bf16) : Part F :=
  ⟨oPay d q k v, mPay d q k, lPay d q k⟩

/-- A copy lands what was read. -/
theorem copied (p : Part F) (i : Dev nD) (f : ownM.view.ty.Contents (Elt F)) (g : (slotM i).view.ty.Contents (Elt F))
    (h : Fits p (ownM.view.read (Elt F) f)) :
    Fits p ((slotM i).view.read (Elt F) ((slotM i).view.write (Elt F) g (ownM.view.read (Elt F) f) Finset.univ)) := by
  rw [View.read_write_univ]; exact h

theorem notMem_of_col (off off' : Fin 2 → ℕ) (s s' : Fin 2 → ℕ) (h : ∀ a, off a + s a ≤ S8x128.size a) (h' : ∀ a, off' a + s' a ≤ S8x128.size a)
    (hd : off 1 + s 1 ≤ off' 1 ∨ off' 1 + s' 1 ≤ off 1)
    (x : (Rect.unit (s := S8x128) off' s' h').shape.Idx) :
    (Rect.unit (s := S8x128) off' s' h').emb x ∉ Finset.univ.map (Rect.unit (s := S8x128) off s h).emb := by
  intro hm
  obtain ⟨y, -, hy⟩ := Finset.mem_map.mp hm
  have e : (off 1 + 1 * (y 1).val) = off' 1 + 1 * (x 1).val := congrArg (fun z : S8x128.Idx => (z 1).val) hy
  have hy1 : (y 1).val < s 1 := (y 1).isLt
  have hx1 : (x 1).val < s' 1 := (x 1).isLt
  omega

/-- After the three stores the own buffer holds the partial result. -/
theorem stored (p : Part F) (f : ownM.view.ty.Contents (Elt F)) :
    Fits p (ownM.view.read (Elt F)
      ((ownM.access lR).write (Elt F) ((ownM.access mR).write (Elt F) ((ownM.access oR).write (Elt F) f p.o Finset.univ) p.mx Finset.univ) p.l Finset.univ)) := by
  refine ⟨fun x => ?_, fun x => ?_, fun x => ?_⟩
  · refine (View.read_slice_write_of_not_mem lR _ _ _ ?_).trans ((View.read_slice_write_of_not_mem mR _ _ _ ?_).trans
      (View.read_slice_write_emb oR _ _ (Finset.mem_univ x)))
    · exact notMem_of_col ![0, 65] ![0, 0] S8x1.size S8x64.size _ _ (.inr (by decide)) x
    · exact notMem_of_col ![0, 64] ![0, 0] S8x1.size S8x64.size _ _ (.inr (by decide)) x
  · refine (View.read_slice_write_of_not_mem lR _ _ _ ?_).trans (View.read_slice_write_emb mR _ _ (Finset.mem_univ x))
    exact notMem_of_col ![0, 65] ![0, 64] S8x1.size S8x1.size _ _ (.inr (by decide)) x
  · exact View.read_slice_write_emb lR _ _ (Finset.mem_univ x)

/-! ## The combination of two partial results -/

/-- Two partial results of one head combined, row by row and column by column. -/
def merged (p p' : Part F) : FVec F S8x1x1x64 .f32 :=
  have g := maximumf p.mx p'.mx
  have e := exp (subf p.mx g)
  have e' := exp (subf p'.mx g)
  shapeCast S8x1x1x64 (divf (addf (mulf p.o (broadcastTo S8x64 e broadcasts_S8x1_S8x64)) (mulf p'.o (broadcastTo S8x64 e' broadcasts_S8x1_S8x64)))
    (broadcastTo S8x64 (addf (mulf p.l e) (mulf p'.l e')) broadcasts_S8x1_S8x64)) shapeCasts_S8x64_S8x1x1x64

theorem slices_of_fits {p : Part F} {X : FVec F S8x128 .f32} (h : Fits p X) :
    extractStridedSlice S8x64 ![0, 0] X slices_S8x128_o0_0_S8x64 = p.o
    ∧ extractStridedSlice S8x1 ![0, 64] X slices_S8x128_o0_64_S8x1 = p.mx
    ∧ extractStridedSlice S8x1 ![0, 65] X slices_S8x128_o0_65_S8x1 = p.l := by
  refine ⟨funext fun x => ?_, funext fun x => ?_, funext fun x => ?_⟩
  · rw [← h.1 x]; refine congrArg X (funext fun a => Fin.ext ?_)
    show _ + (x a).val = _ + 1 * (x a).val; rw [one_mul]; rfl
  · rw [← h.2.1 x]; refine congrArg X (funext fun a => Fin.ext ?_)
    show _ + (x a).val = _ + 1 * (x a).val; rw [one_mul]; rfl
  · rw [← h.2.2 x]; refine congrArg X (funext fun a => Fin.ext ?_)
    show _ + (x a).val = _ + 1 * (x a).val; rw [one_mul]; rfl

/-- The kernel's combination reads only the columns that hold the partial results. -/
theorem combine_eq {p p' : Part F} {v w : Vec F S1x8x128 .f32} (h : Fits p (shapeCast S8x128 v shapeCasts_S1x8x128_S8x128))
    (h' : Fits p' (shapeCast S8x128 w shapeCasts_S1x8x128_S8x128)) : combine v w = merged p p' := by
  obtain ⟨ho, hm, hl⟩ := slices_of_fits h
  obtain ⟨ho', hm', hl'⟩ := slices_of_fits h'
  unfold combine k0_pay20 merged
  simp only [ho, hm, hl, ho', hm', hl']

/-- What a load of slot `i` reads is what the slot reads, up to its leading axis of extent one. -/
theorem slot_load (i : Dev nD) (f : commM.view.ty.Contents (Elt F)) :
    shapeCast S8x128 (commM.view.readAt (Elt F) (slotR i).toLoadRect f) shapeCasts_S1x8x128_S8x128 = (slotM i).view.read (Elt F) f := rfl

end Cert.KernelIdeal.Flash
-- ==== Proof.Parts.lean ====
module

public import proofs.«01_k».proof.Proof.Prog

/-! # The printed parts of the body are the short program's

Each printed part is a run of steps; the lemmas name them. The last theorem puts the parts together. -/

@[expose] public section

noncomputable section

namespace Cert.KernelIdeal.Flash

open Idealize.ShloMosaic Idealize.ShloMosaic.TcCoe
open Idealize.SL Idealize.SL.Sem
open Cert.KernelIdeal Cert.KernelIdeal.Gen

variable {F : FTy → Type} [FloatOps F]
variable (a0 : Memref sig .tc .vmem S8x1x8x64 .bf16) (h0 : a0.IsWhole) (a1 : Memref sig .tc .vmem S8x1x64x512 .bf16) (h1 : a1.IsWhole)
  (a2 : Memref sig .tc .vmem S8x1x64x512 .bf16) (h2 : a2.IsWhole) (a3 : Memref sig .tc .vmem S8x1x8x64 .f32) (h3 : a3.IsWhole)
  (h4 : commM.IsWhole) (h5 : ownM.IsWhole)

theorem part1_eq : k0_part1 (F := F) a0 h0 a1 h1 a2 h2 a3 h3 commM h4 ownM h5 cc0_scratch2 cc0_scratch3 cc0_scratch4
    = .op .deviceId fun d => [0, 1, 2, 3, 4].foldr (sigOp d) (.ret ⟨d, myWord d, headWord d, SemArray.scalar (sig.barrier 0 rfl),
        Scalar.extui (Scalar.cmpi .ne (myWord d) 5#32), 0#32⟩) := by
  rw [k0_part1_eq_skeleton]
  unfold k0_part1_skel
  refine congrArg (Prog.op (TpuEff.deviceId)) (funext fun d => ?_)
  iterate 5
    refine dite_eq_sig (F := F) ?_ (fun h => ?_) ?_
    · revert d; decide +kernel
    · exact signal_eq (by decide +kernel) _
  rfl

theorem part2_eq (d : Dev nD) : k0_part2 (F := F) a0 h0 a1 h1 a2 h2 a3 h3 commM h4 ownM h5 cc0_scratch2 cc0_scratch3 cc0_scratch4
      d (myWord d) (SemArray.scalar (sig.barrier 0 rfl)) (Scalar.extui (Scalar.cmpi .ne (myWord d) 5#32)) 0#32
    = [5, 6, 7, 8, 9, 10, 11, 12, 13, 14].foldr (sigOp d) (.ret ⟨Scalar.extui (Scalar.cmpi .ne (myWord d) 15#32), 0#32⟩) := by
  rw [k0_part2_eq_skeleton]
  unfold k0_part2_skel
  iterate 10
    refine dite_eq_sig (F := F) ?_ (fun h => ?_) ?_
    · revert d; decide +kernel
    · exact signal_eq (by decide +kernel) _
  rfl

theorem part3_eq (d : Dev nD) : k0_part3 (F := F) a0 h0 a1 h1 a2 h2 a3 h3 commM h4 ownM h5 cc0_scratch2 cc0_scratch3 cc0_scratch4
      d (SemArray.scalar (sig.barrier 0 rfl)) (Scalar.extui (Scalar.cmpi .ne (myWord d) 15#32)) 0#32
    = [15].foldr (sigOp d) (.op (.semWait barSem 15) fun _ =>
        .op (.load a0 (Rect.unit (s := S8x1x8x64) ![0, 0, 0, 0] S8x1x8x64.size inb_S8x1x8x64_S8x1x8x64_0_0_0_0).toLoadRect (View.loadsAt_vmem h_S8x1x8x64)) fun q =>
        .ret ⟨k0_pay1, k0_pay2 q, iota .tc S512x512 32 [0] iota_S512x512_d0_w32, iota .tc S512x512 32 [1] iota_S512x512_d1_w32, 64#32,
          k0_pay3, k0_pay4, k0_pay5⟩) := by
  rw [k0_part3_eq_skeleton]
  unfold k0_part3_skel
  refine dite_eq_sig (F := F) ?_ (fun h => ?_) ?_
  · revert d; decide +kernel
  · exact signal_eq (by decide +kernel) _
  rfl

/-- The rest of part 6 after the copy into the own slot. -/
theorem part6_eq (d : Dev nD) (l : FVec F S8x1 .f32) : k0_part6 (F := F) a0 h0 a1 h1 a2 h2 a3 h3 commM h4 ownM h5 cc0_scratch2 cc0_scratch3 cc0_scratch4 d (myWord d) l
    = .op (.load ownM (Rect.unit (s := S8x128) ![0, 65] S8x1.size inb_S8x128_S8x1_0_65).toLoadRect (View.loadsAt_vmem h_S8x1)) fun _ =>
      .op (.store ownM (Rect.unit (s := S8x128) ![0, 65] S8x1.size inb_S8x128_S8x1_0_65) (k0_pay17 l) Finset.univ (View.stores_vmem_bits_univ h_S8x1 rfl) (.inl rfl)) fun _ =>
      .op (.enqueueDma ownM (.here (slotM d)) (.dma selfSem) ownM_wordExact (slotM_wordExact d) ⟨Or.inl rfl, trivial⟩) fun _ =>
      .op (.waitDma2 selfSem ownM (slotM d) ownM_wordExact (slotM_wordExact d)) fun _ =>
      [0, 1, 2, 3, 4, 5, 6].foldr (sendOp d) (.ret (Scalar.cmpi .ne (myWord d) 7#32)) := by
  rw [k0_part6_eq_skeleton]
  unfold k0_part6_skel
  refine congrArg (Prog.op _) (funext fun _ => ?_)
  refine congrArg (Prog.op _) (funext fun _ => ?_)
  refine Eq.trans ?_ (selfCopy_eq (o := k0_off1 d) (by revert d; decide +kernel) (k0_off1_inb d) ownM_wordExact ((View.wordExact_bits rfl).reshape _ _) _)
  refine congrArg (Prog.op _) (funext fun _ => ?_)
  refine congrArg (Prog.op _) (funext fun _ => ?_)
  iterate 7
    refine dite_eq_send (F := F) ?_ (fun h => ?_) ?_
    · revert d; decide +kernel
    · exact send_eq (by decide +kernel) (by rfl) (by clear h; revert d; decide +kernel) (by clear h; revert d; decide +kernel) _ _ _ _ _ _
  rfl

theorem part7_eq (d : Dev nD) : k0_part7 (F := F) a0 h0 a1 h1 a2 h2 a3 h3 commM h4 ownM h5 cc0_scratch2 cc0_scratch3 cc0_scratch4 d (myWord d) (Scalar.cmpi .ne (myWord d) 7#32)
    = [7, 8, 9, 10, 11, 12, 13, 14, 15].foldr (sendOp d) ([0].foldr (recvOp d) (.ret (Scalar.cmpi .ne (myWord d) 1#32))) := by
  rw [k0_part7_eq_skeleton]
  unfold k0_part7_skel
  iterate 9
    refine dite_eq_send (F := F) ?_ (fun h => ?_) ?_
    · revert d; decide +kernel
    · exact send_eq (by decide +kernel) (by rfl) (by clear h; revert d; decide +kernel) (by clear h; revert d; decide +kernel) _ _ _ _ _ _
  refine dite_eq_recv (F := F) ?_ (fun h => recv_eq (by rfl) (by rfl) _ _ _ _ _) ?_
  · rfl
  rfl

theorem part8_eq (d : Dev nD) : k0_part8 (F := F) a0 h0 a1 h1 a2 h2 a3 h3 commM h4 ownM h5 cc0_scratch2 cc0_scratch3 cc0_scratch4 (myWord d) (Scalar.cmpi .ne (myWord d) 1#32)
    = [1, 2, 3, 4, 5, 6, 7, 8, 9, 10].foldr (recvOp d) (.ret (Scalar.cmpi .ne (myWord d) 11#32)) := by
  rw [k0_part8_eq_skeleton]
  unfold k0_part8_skel
  iterate 10
    refine dite_eq_recv (F := F) ?_ (fun h => recv_eq (by rfl) (by rfl) _ _ _ _ _) ?_
    · rfl
  rfl

theorem part9_eq (d : Dev nD) : k0_part9 (F := F) a0 h0 a1 h1 a2 h2 a3 h3 commM h4 ownM h5 cc0_scratch2 cc0_scratch3 cc0_scratch4 (myWord d) (Scalar.cmpi .ne (myWord d) 11#32)
    = [11, 12, 13, 14, 15].foldr (recvOp d) (
      .op (.load commM (slotR (lower 0)).toLoadRect (View.loadsAt_vmem h_S1x8x128)) fun v =>
      .op (.load commM (slotR (upper 0)).toLoadRect (View.loadsAt_vmem h_S1x8x128)) fun w =>
      .ret (k0_pay18 v w)) := by
  rw [k0_part9_eq_skeleton]
  unfold k0_part9_skel
  iterate 5
    refine dite_eq_recv (F := F) ?_ (fun h => recv_eq (by rfl) (by rfl) _ _ _ _ _) ?_
    · rfl
  rfl

theorem part14_eq (d : Dev nD) (r : FVec F S8x1x1x64 .f32) : k0_part14 (F := F) a0 h0 a1 h1 a2 h2 a3 h3 commM h4 ownM h5 cc0_scratch2 cc0_scratch3 cc0_scratch4 (myWord d) r
    = .op (.store a3 (headR 6) r Finset.univ (View.stores_vmem_bits_univ h_S8x1x1x64 rfl) (.inl rfl)) fun _ =>
      [7].foldr (combineOp a3) ([0, 1, 2].foldr (drainOp d) (.ret (Scalar.cmpi .ne (myWord d) 3#32))) := by
  rw [k0_part14_eq_skeleton]
  unfold k0_part14_skel
  refine congrArg (Prog.op _) (funext fun _ => ?_)
  refine congrArg (Prog.op _) (funext fun v => ?_)
  refine congrArg (Prog.op _) (funext fun w => ?_)
  refine congrArg (Prog.op _) (funext fun _ => ?_)
  refine congrArg (Prog.op _) (funext fun _ => ?_)
  iterate 3
    refine dite_eq_drain (F := F) ?_ (fun h => drain_eq (by rfl) (by rfl) _ _ _ _ _) ?_
    · rfl
  rfl

theorem part15_eq (d : Dev nD) : k0_part15 (F := F) a0 h0 a1 h1 a2 h2 a3 h3 commM h4 ownM h5 cc0_scratch2 cc0_scratch3 cc0_scratch4 (myWord d) (Scalar.cmpi .ne (myWord d) 3#32)
    = [3, 4, 5, 6, 7, 8, 9, 10, 11, 12].foldr (drainOp d) (.ret (Scalar.cmpi .ne (myWord d) 13#32)) := by
  rw [k0_part15_eq_skeleton]
  unfold k0_part15_skel
  iterate 10
    refine dite_eq_drain (F := F) ?_ (fun h => drain_eq (by rfl) (by rfl) _ _ _ _ _) ?_
    · rfl
  rfl

/-! ## The body -/

/-- What follows a walk may be moved into it. -/
theorem walk_bind {α β γ : Type} (f : γ → Kern F α → Kern F α) (f' : γ → Kern F β → Kern F β) (g : α → Kern F β)
    (h : ∀ j K, (f j K).bind g = f' j (K.bind g)) (l : List γ) (K : Kern F α) : (l.foldr f K).bind g = l.foldr f' (K.bind g) := by
  induction l with
  | nil => rfl
  | cons j l ih => rw [List.foldr_cons, List.foldr_cons, h, ih]

theorem sigOp_bind {α β : Type} (c : Dev nD) (g : α → Kern F β) (l : List (Dev nD)) (K : Kern F α) :
    (l.foldr (sigOp c) K).bind g = l.foldr (sigOp c) (K.bind g) :=
  walk_bind _ _ g (fun j K => by unfold sigOp unlessSelf; split <;> rfl) l K
theorem sendOp_bind {α β : Type} (c : Dev nD) (g : α → Kern F β) (l : List (Dev nD)) (K : Kern F α) :
    (l.foldr (sendOp c) K).bind g = l.foldr (sendOp c) (K.bind g) :=
  walk_bind _ _ g (fun j K => by unfold sendOp unlessSelf; split <;> rfl) l K
theorem recvOp_bind {α β : Type} (c : Dev nD) (g : α → Kern F β) (l : List (Dev nD)) (K : Kern F α) :
    (l.foldr (recvOp c) K).bind g = l.foldr (recvOp c) (K.bind g) :=
  walk_bind _ _ g (fun j K => by unfold recvOp unlessSelf; split <;> rfl) l K
theorem drainOp_bind {α β : Type} (c : Dev nD) (g : α → Kern F β) (l : List (Dev nD)) (K : Kern F α) :
    (l.foldr (drainOp c) K).bind g = l.foldr (drainOp c) (K.bind g) :=
  walk_bind _ _ g (fun j K => by unfold drainOp unlessSelf; split <;> rfl) l K
theorem combineOp_bind {α β : Type} (g : α → Kern F β) (l : List (Fin 8)) (K : Kern F α) :
    (l.foldr (combineOp a3) K).bind g = l.foldr (combineOp a3) (K.bind g) :=
  walk_bind _ _ g (fun j K => rfl) l K

/-- Parts 4 and 5 on the values of the parts before: the partial result of the device is written. -/
theorem part5_eq (v92 : FVec F S8x512 .f32) (v95 : FVec F S8x512 .bf16) (v123 : IVec S512x512 1) (v139 : IVec S512x512 32) (v141 : BitVec 32)
    (v143 : IVec S512x512 32) (v145 v147 : IVec S512x512 1) (v148 : BitVec 1) :
    k0_part5 (F := F) a0 h0 a1 h1 a2 h2 a3 h3 commM h4 ownM h5 cc0_scratch2 cc0_scratch3 cc0_scratch4 v92 v95 v123 v139 v141 v143 v145 v147 v148
    = .op (.load a1 (Rect.unit (s := S8x1x64x512) ![0, 0, 0, 0] S8x1x64x512.size inb_S8x1x64x512_S8x1x64x512_0_0_0_0).toLoadRect (View.loadsAt_vmem h_S8x1x64x512)) fun k =>
      .op (.load a2 (Rect.unit (s := S8x1x64x512) ![0, 0, 0, 0] S8x1x64x512.size inb_S8x1x64x512_S8x1x64x512_0_0_0_0).toLoadRect (View.loadsAt_vmem h_S8x1x64x512)) fun v =>
      .op (.load ownM (Rect.unit (s := S8x128) ![0, 0] S8x64.size inb_S8x128_S8x64_0_0).toLoadRect (View.loadsAt_vmem h_S8x64)) fun _ =>
      .op (.store ownM (Rect.unit (s := S8x128) ![0, 0] S8x64.size inb_S8x128_S8x64_0_0) (k0_pay15 v92 v95 v123 v139 v141 v143 v145 v147 v148 k v) Finset.univ (View.stores_vmem_bits_univ h_S8x64 rfl) (.inl rfl)) fun _ =>
      .op (.load ownM (Rect.unit (s := S8x128) ![0, 64] S8x1.size inb_S8x128_S8x1_0_64).toLoadRect (View.loadsAt_vmem h_S8x1)) fun _ =>
      .op (.store ownM (Rect.unit (s := S8x128) ![0, 64] S8x1.size inb_S8x128_S8x1_0_64) (k0_pay16 v92 v95 v123 v139 v141 v143 v145 v147 v148 k) Finset.univ (View.stores_vmem_bits_univ h_S8x1 rfl) (.inl rfl)) fun _ =>
      .ret (k0_pay14 v92 v95 v123 v139 v141 v143 v145 v147 v148 k) := by
  rw [k0_part5_eq_skeleton]; rfl

/-- Write the device's own partial result, read the three inputs for it, and copy it into the own slot. -/
def partialProg (d : Dev nD) (K : Kern F PUnit) : Kern F PUnit :=
  .op (.load a0 (Rect.unit (s := S8x1x8x64) ![0, 0, 0, 0] S8x1x8x64.size inb_S8x1x8x64_S8x1x8x64_0_0_0_0).toLoadRect (View.loadsAt_vmem h_S8x1x8x64)) fun q =>
  .op (.load a1 (Rect.unit (s := S8x1x64x512) ![0, 0, 0, 0] S8x1x64x512.size inb_S8x1x64x512_S8x1x64x512_0_0_0_0).toLoadRect (View.loadsAt_vmem h_S8x1x64x512)) fun k =>
  .op (.load a2 (Rect.unit (s := S8x1x64x512) ![0, 0, 0, 0] S8x1x64x512.size inb_S8x1x64x512_S8x1x64x512_0_0_0_0).toLoadRect (View.loadsAt_vmem h_S8x1x64x512)) fun v =>
  .op (.load ownM (Rect.unit (s := S8x128) ![0, 0] S8x64.size inb_S8x128_S8x64_0_0).toLoadRect (View.loadsAt_vmem h_S8x64)) fun _ =>
  .op (.store ownM (Rect.unit (s := S8x128) ![0, 0] S8x64.size inb_S8x128_S8x64_0_0) (oPay d q k v) Finset.univ (View.stores_vmem_bits_univ h_S8x64 rfl) (.inl rfl)) fun _ =>
  .op (.load ownM (Rect.unit (s := S8x128) ![0, 64] S8x1.size inb_S8x128_S8x1_0_64).toLoadRect (View.loadsAt_vmem h_S8x1)) fun _ =>
  .op (.store ownM (Rect.unit (s := S8x128) ![0, 64] S8x1.size inb_S8x128_S8x1_0_64) (mPay d q k) Finset.univ (View.stores_vmem_bits_univ h_S8x1 rfl) (.inl rfl)) fun _ =>
  .op (.load ownM (Rect.unit (s := S8x128) ![0, 65] S8x1.size inb_S8x128_S8x1_0_65).toLoadRect (View.loadsAt_vmem h_S8x1)) fun _ =>
  .op (.store ownM (Rect.unit (s := S8x128) ![0, 65] S8x1.size inb_S8x128_S8x1_0_65) (lPay d q k) Finset.univ (View.stores_vmem_bits_univ h_S8x1 rfl) (.inl rfl)) fun _ =>
  .op (.enqueueDma ownM (.here (slotM d)) (.dma selfSem) ownM_wordExact (slotM_wordExact d) ⟨Or.inl rfl, trivial⟩) fun _ =>
  .op (.waitDma2 selfSem ownM (slotM d) ownM_wordExact (slotM_wordExact d)) fun _ => K

/-- The whole body: enter, compute the own partial result, send it to every other device, take theirs, combine, and wait
    for the own copies to have left. -/
def bodyProg : Kern F PUnit :=
  .op .deviceId fun d =>
  devs.foldr (sigOp d) <|
  .op (.semWait barSem 15) fun _ =>
  partialProg a0 a1 a2 d <|
  devs.foldr (sendOp d) <|
  devs.foldr (recvOp d) <|
  heads.foldr (combineOp a3) <|
  devs.foldr (drainOp d) <|
  .ret ⟨⟩

/-- The printed parts 10 to 13, which read and combine the partial results of heads 0 to 6, from the first head's combined value. -/
theorem parts_combine (d : Dev nD) (r : FVec F S8x64 .f32) (K : Kern F PUnit) (v w : Vec F S1x8x128 .f32) (hr : r = k0_pay18 v w) :
    ((k0_part10 (F := F) a0 h0 a1 h1 a2 h2 a3 h3 commM h4 ownM h5 cc0_scratch2 cc0_scratch3 cc0_scratch4 r).bind fun x =>
      (k0_part11 (F := F) a0 h0 a1 h1 a2 h2 a3 h3 commM h4 ownM h5 cc0_scratch2 cc0_scratch3 cc0_scratch4 x.1 x.2.1 x.2.2.1 x.2.2.2.1 x.2.2.2.2).bind fun y =>
      (k0_part12 (F := F) a0 h0 a1 h1 a2 h2 a3 h3 commM h4 ownM h5 cc0_scratch2 cc0_scratch3 cc0_scratch4 y).bind fun z =>
      (k0_part13 (F := F) a0 h0 a1 h1 a2 h2 a3 h3 commM h4 ownM h5 cc0_scratch2 cc0_scratch3 cc0_scratch4 z.1 z.2.1 z.2.2.1 z.2.2.2).bind fun u =>
      .op (.store a3 (headR 6) u Finset.univ (View.stores_vmem_bits_univ h_S8x1x1x64 rfl) (.inl rfl)) fun _ => K)
    = .op (.load a3 (headR 0).toLoadRect (View.loadsAt_vmem h_S8x1x1x64)) fun _ =>
      .op (.store a3 (headR 0) (combine v w) Finset.univ (View.stores_vmem_bits_univ h_S8x1x1x64 rfl) (.inl rfl)) fun _ =>
      [1, 2, 3, 4, 5, 6].foldr (combineOp a3) K := by
  subst hr
  rw [k0_part10_eq_skeleton, k0_part11_eq_skeleton, k0_part12_eq_skeleton, k0_part13_eq_skeleton]
  rfl

/-- A walk goes through a first stretch of its numbers and then through the rest. -/
theorem walk_split {α γ : Type} (f : γ → Kern F α → Kern F α) (l₁ l₂ l : List γ) (h : l = l₁ ++ l₂) (K K' : Kern F α) (hK : K = l₂.foldr f K') :
    l₁.foldr f K = l.foldr f K' := by
  subst h; rw [List.foldr_append, hK]

/-- Programs that go on alike from every value are equal. -/
theorem bind_congr_right {α β : Type} {p : Kern F α} {k k' : α → Kern F β} (h : ∀ a, k a = k' a) : p.bind k = p.bind k' :=
  congrArg (fun k => p.bind k) (funext h)

set_option maxHeartbeats 2000000 in
/-- The printed body is the short program. -/
theorem body_eq : cc0_body (F := F) a0 h0 a1 h1 a2 h2 a3 h3 commM h4 ownM h5 cc0_scratch2 cc0_scratch3 cc0_scratch4 = bodyProg a0 a1 a2 a3 := by
  rw [cc0_body_eq_skeleton]
  unfold cc0_body_skel
  refine (congrArg (fun p => Prog.bind p _) (part1_eq a0 h0 a1 h1 a2 h2 a3 h3 h4 h5)).trans ?_
  refine congrArg (Prog.op _) (funext fun d => ?_)
  refine (sigOp_bind d _ _ _).trans (walk_split _ _ [5, 6, 7, 8, 9, 10, 11, 12, 13, 14, 15] _ (by rfl) _ _ ?_)
  refine (congrArg (fun p => Prog.bind p _) (part2_eq a0 h0 a1 h1 a2 h2 a3 h3 h4 h5 d)).trans ?_
  refine (sigOp_bind d _ _ _).trans (walk_split _ _ [15] _ (by rfl) _ _ ?_)
  refine (congrArg (fun p => Prog.bind p _) (part3_eq a0 h0 a1 h1 a2 h2 a3 h3 h4 h5 d)).trans ?_
  refine (sigOp_bind d _ _ _).trans ?_
  refine congrArg (fun K => [15].foldr (sigOp d) K) ?_
  refine congrArg (Prog.op _) (funext fun _ => ?_)
  refine congrArg (Prog.op _) (funext fun q => ?_)
  refine (congrArg (fun p => Prog.bind p _) (part5_eq a0 h0 a1 h1 a2 h2 a3 h3 h4 h5 _ _ _ _ _ _ _ _ _)).trans ?_
  iterate 6 refine congrArg (Prog.op _) (funext fun _ => ?_)
  refine (congrArg (fun p => Prog.bind p _) (part6_eq a0 h0 a1 h1 a2 h2 a3 h3 h4 h5 d _)).trans ?_
  iterate 4 refine congrArg (Prog.op _) (funext fun _ => ?_)
  refine (sendOp_bind d _ _ _).trans (walk_split _ _ [7, 8, 9, 10, 11, 12, 13, 14, 15] _ (by rfl) _ _ ?_)
  refine (congrArg (fun p => Prog.bind p _) (part7_eq a0 h0 a1 h1 a2 h2 a3 h3 h4 h5 d)).trans ?_
  refine (sendOp_bind d _ _ _).trans (congrArg (fun K => [7, 8, 9, 10, 11, 12, 13, 14, 15].foldr (sendOp d) K) ?_)
  refine (recvOp_bind d _ _ _).trans (walk_split _ _ [1, 2, 3, 4, 5, 6, 7, 8, 9, 10, 11, 12, 13, 14, 15] _ (by rfl) _ _ ?_)
  refine (congrArg (fun p => Prog.bind p _) (part8_eq a0 h0 a1 h1 a2 h2 a3 h3 h4 h5 d)).trans ?_
  refine (recvOp_bind d _ _ _).trans (walk_split _ _ [11, 12, 13, 14, 15] _ (by rfl) _ _ ?_)
  refine (congrArg (fun p => Prog.bind p _) (part9_eq a0 h0 a1 h1 a2 h2 a3 h3 h4 h5 d)).trans ?_
  refine (recvOp_bind d _ _ _).trans (congrArg (fun K => [11, 12, 13, 14, 15].foldr (recvOp d) K) ?_)
  refine congrArg (Prog.op _) (funext fun v => ?_)
  refine congrArg (Prog.op _) (funext fun w => ?_)
  refine Eq.trans ?_ (parts_combine a0 h0 a1 h1 a2 h2 a3 h3 h4 h5 d (k0_pay18 v w) _ v w rfl)
  show (k0_part10 (F := F) a0 h0 a1 h1 a2 h2 a3 h3 commM h4 ownM h5 cc0_scratch2 cc0_scratch3 cc0_scratch4 (k0_pay18 v w)).bind _ = _
  refine bind_congr_right fun ⟨x₁, x₂, x₃, x₄, x₅⟩ => ?_
  show (k0_part11 (F := F) a0 h0 a1 h1 a2 h2 a3 h3 commM h4 ownM h5 cc0_scratch2 cc0_scratch3 cc0_scratch4 x₁ x₂ x₃ x₄ x₅).bind _ = _
  refine bind_congr_right fun y => ?_
  show (k0_part12 (F := F) a0 h0 a1 h1 a2 h2 a3 h3 commM h4 ownM h5 cc0_scratch2 cc0_scratch3 cc0_scratch4 y).bind _ = _
  refine bind_congr_right fun ⟨z₁, z₂, z₃, z₄⟩ => ?_
  show (k0_part13 (F := F) a0 h0 a1 h1 a2 h2 a3 h3 commM h4 ownM h5 cc0_scratch2 cc0_scratch3 cc0_scratch4 z₁ z₂ z₃ z₄).bind _ = _
  refine bind_congr_right fun u => ?_
  refine (congrArg (fun p => Prog.bind p _) (part14_eq a0 h0 a1 h1 a2 h2 a3 h3 h4 h5 d u)).trans ?_
  refine congrArg (Prog.op _) (funext fun _ => ?_)
  refine (combineOp_bind a3 _ _ _).trans (congrArg (fun K => [7].foldr (combineOp a3) K) ?_)
  refine (drainOp_bind d _ _ _).trans (walk_split _ _ [3, 4, 5, 6, 7, 8, 9, 10, 11, 12, 13, 14, 15] _ (by rfl) _ _ ?_)
  refine (congrArg (fun p => Prog.bind p _) (part15_eq a0 h0 a1 h1 a2 h2 a3 h3 h4 h5 d)).trans ?_
  refine (drainOp_bind d _ _ _).trans (walk_split _ _ [13, 14, 15] _ (by rfl) _ _ ?_)
  iterate 3
    refine dite_eq_drain (F := F) ?_ (fun h => drain_eq (by rfl) (by rfl) _ _ _ _ _) ?_
    · rfl
  rfl

end Cert.KernelIdeal.Flash
-- ==== Proof.Memory.lean ====
module

public import proofs.«01_k».proof.Proof.Steps
public import proofs.«01_k».proof.Proof.Payload
public import proofs.«01_k».proof.Proof.Parts
public import Idealize.ShloMosaic.Lib.Ring
public import Idealize.ShloMosaic.Lib.VecWindow
public import Idealize.ShloMosaic.Lib.ValueIdxCoords

/-! # The buffers a device works on

The gathering buffer as its sixteen slots, the own partial result as sixteen shares, and the two local
stretches of the body: from the operands to the partial result, and from the gathered results to the output. -/

@[expose] public section

noncomputable section

namespace Cert.KernelIdeal.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves
open Cert.KernelIdeal Cert.KernelIdeal.Gen
open Idealize.ShloMosaic.ValueIdx (ix4 eq_ix4)

variable {F : FTy → Type} [FloatOps F]

local notation "𝕄" => MT nD τ sig Unit (Elt F) ℕ UU ℕ

/-! ## The slots of the gathering buffer -/

theorem slot_set (i : Dev nD) : (slotM i).view.set = (slotR i).set :=
  (View.set_reshape _ _).trans (View.set_slice_whole cc0_scratch0 (slotR i))

theorem slots_disjoint (i j : Dev nD) (h : i ≠ j) : Disjoint (slotR i).set (slotR j).set :=
  Ring.lead_disjoint (s := S16x8x128) (NB := 16) 0 1 (fun b => ![b.val, 0, 0]) S1x8x128.size slot_inb (fun b => (Nat.one_mul b.val).symm) rfl i j h

theorem slots_cover : Finset.univ.biUnion (fun i : Dev nD => (slotR i).set) = Finset.univ :=
  Ring.lead_cover (s := S16x8x128) (NB := 16) 0 1 (fun b => ![b.val, 0, 0]) S1x8x128.size slot_inb (fun b => (Nat.one_mul b.val).symm)
    (fun b a h => by fin_cases a <;> first | exact absurd rfl h | rfl) rfl (fun a h => by fin_cases a <;> first | exact absurd rfl h | rfl) rfl

/-- A slot as its part of the gathering buffer. -/
theorem slotSat_part (c i : Dev nD) (P : SlotPred F) : (slotSat c i P : sProp 𝕄)
    = iprop(∃ f : Buf (Elt F) ((c : Thread nD τ).loc cc0_scratch0), ⌜P ((slotM i).view.read (Elt F) f)⌝
        ∗ (((c : Thread nD τ).loc cc0_scratch0) ↦[(slotR i).set]{fullShare} f)) := by
  rw [slotSat_eq, slot_set]; rfl

/-- The gathering buffer held whole is its slots held. -/
theorem comm_split (c : Dev nD) (f : Buf (Elt F) ((c : Thread nD τ).loc cc0_scratch0)) :
    (((c : Thread nD τ).loc cc0_scratch0) ↦{fullShare} f : sProp 𝕄) ⊢ bigSep Finset.univ fun i => slotSat c i anyP := by
  rw [Ring.pointsTo_blocks (ℓ := (c : Thread nD τ).loc cc0_scratch0) (fun i : Dev nD => (slotR i).set) slots_disjoint slots_cover f]
  have key (i : Dev nD) : (((c : Thread nD τ).loc cc0_scratch0) ↦[(slotR i).set]{fullShare} f : sProp 𝕄) ⊢ slotSat c i anyP := by
    rw [slotSat_part]
    iintro H; iexists f
    isplitr
    · ipureintro; exact trivial
    · iexact H
  exact bigSep_mono fun i _ => key i

/-- The slots held, each at right contents, are the gathering buffer held whole at contents right in every slot. -/
theorem comm_join (c : Dev nD) (P : Dev nD → SlotPred F) :
    (bigSep Finset.univ fun i => slotSat c i (P i))
      ⊢ (iprop(∃ g : Buf (Elt F) ((c : Thread nD τ).loc cc0_scratch0), ⌜∀ i, P i ((slotM i).view.read (Elt F) g)⌝
          ∗ ((c : Thread nD τ).loc cc0_scratch0) ↦{fullShare} g) : sProp 𝕄) := by
  rw [bigSep_congr (s := Finset.univ) fun i _ => slotSat_part c i (P i)]
  refine (bigSep_exists_pi Finset.univ fun (i : Dev nD) (f : Buf (Elt F) ((c : Thread nD τ).loc cc0_scratch0)) =>
    (iprop(⌜P i ((slotM i).view.read (Elt F) f)⌝ ∗ (((c : Thread nD τ).loc cc0_scratch0) ↦[(slotR i).set]{fullShare} f)) : sProp 𝕄)).trans ?_
  iintro ⟨%fs, H⟩
  ihave H' := (bigSep_pure_sep Finset.univ (fun i : Dev nD => P i ((slotM i).view.read (Elt F) (fs i)))
    (fun i => (((c : Thread nD τ).loc cc0_scratch0) ↦[(slotR i).set]{fullShare} fs i : sProp 𝕄))) $$ H
  icases H' with ⟨%hP, H⟩
  ihave H' := (pointsTo_biUnion_join (ℓ := (c : Thread nD τ).loc cc0_scratch0) (q := fullShare) Finset.univ (fun i : Dev nD => (slotR i).set) fs (fs 0)
    (fun i _ j _ h => slots_disjoint i j h)) $$ H
  icases H' with ⟨%g, %hg, H⟩
  rw [slots_cover]
  iexists g
  isplitr
  · ipureintro
    intro i
    rw [View.read_congr (v := (slotM i).view) (f := g) (g := fs i) fun x hx => hg i (Finset.mem_univ i) x (slot_set i ▸ hx)]
    exact hP i (Finset.mem_univ i)
  · iexact H

/-! ## The shares of the own partial result -/

/-- A memref held at a share is held at the shares that `n` halvings cut it into, and back. -/
theorem ownsSat_leaves (c : Thread nD τ) {sp : Space} {sh : Shape} {e : EltTy} (a : Memref sig c.2.kind sp sh e) (P : (sh.Idx → Elt F e) → Prop) :
    ∀ (n : ℕ) (q : PosShare TreeShare),
      (ownsSat c a q P : sProp 𝕄) = bigSep Finset.univ fun i : Fin (2 ^ n) => ownsSat c a (leaf n q i) P
  | 0, q => (bigSep_univ_of_subsingleton (0 : Fin 1) (Φ := fun i : Fin (2 ^ 0) => (ownsSat c a (leaf 0 q i) P : sProp 𝕄))).symm
  | n + 1, q => by
    refine (BI.Entails.antisymm (ownsSat_halves c a q P).1 (ownsSat_halves c a q P).2).trans ?_
    rw [ownsSat_leaves c a P n q.left, ownsSat_leaves c a P n q.right,
      bigSep_univ_equiv (sumEquiv n) (fun i : Fin (2 ^ (n + 1)) => (ownsSat c a (leaf (n + 1) q i) P : sProp 𝕄)), bigSep_univ_sum]
    congr 1 <;> refine bigSep_congr fun i _ => ?_
    · rw [leaf_inl]
    · rw [leaf_inr]

/-- The own buffer held whole is its sixteen shares held, and back. -/
theorem own_shares (c : Dev nD) (P : SlotPred F) :
    (ownsSat (c : Thread nD τ) ownM fullShare P : sProp 𝕄) = bigSep Finset.univ fun j : Dev nD => ownSat c j P :=
  ownsSat_leaves (c : Thread nD τ) ownM P 4 fullShare

/-- The own buffer as a memref owned whole at contents that meet a predicate. -/
theorem own_whole (c : Dev nD) (P : SlotPred F) :
    (ownsSat (c : Thread nD τ) ownM fullShare P : sProp 𝕄)
      = iprop(∃ f, ⌜P (ownM.view.read (Elt F) f)⌝ ∗ ((c : Thread nD τ).loc cc0_scratch1) ↦{fullShare} f) := by
  unfold ownsSat
  rw [show ownM.view.set = Finset.univ from View.set_whole _]

/-! ## From the operands to the partial result -/

/-- A load of a whole operand reads the operand. -/
theorem wp_load_full (c : Dev nD) (Q : PUnit.{1} → sProp 𝕄) {s : Shape} {e : EltTy} (a : Memref sig .tc .vmem s e)
    {off : Fin s.rank → ℕ} (inb : ∀ b, off b + s.size b ≤ s.size b) {hl} (X : s.Idx → Elt F e)
    (k : (s.Idx → Elt F e) → Kern F PUnit) :
    (owns (c : Thread nD τ) a fullShare X : sProp 𝕄)
      ⊢ iprop((owns (c : Thread nD τ) a fullShare X -∗ runs c (k X) Q)
        -∗ runs c (.op (.load a (Rect.unit off s.size inb).toLoadRect hl) k) Q) := by
  unfold owns
  iintro ⟨%f, %hf, H⟩ HK
  iapply (wp_load 𝒱₀ (c : Thread nD τ) none Set.univ (m := a) (S := a.view.set) (View.setOn_subset_set _ _)) $$ H
  iintro H
  rw [show a.view.readAt (Elt F) (Rect.unit off s.size inb).toLoadRect f = X from by
    rw [← hf]; exact funext fun z => congrArg (a.view.read (Elt F) f) (Rect.emb_unit_full inb z)]
  iapply HK
  iexists f
  isplitr
  · ipureintro; exact hf
  · iexact H

/-- A load from the own buffer whose value is not used. -/
theorem own_load (c : Dev nD) (Q : PUnit.{1} → sProp 𝕄) (r : Rect S8x128) {hl} (f : Buf (Elt F) ((c : Thread nD τ).loc cc0_scratch1)) (K : Kern F PUnit) :
    (((c : Thread nD τ).loc cc0_scratch1) ↦{fullShare} f : sProp 𝕄)
      ⊢ iprop(((((c : Thread nD τ).loc cc0_scratch1) ↦{fullShare} f) -∗ runs c K Q)
        -∗ runs c (.op (.load ownM r.toLoadRect hl) fun _ => K) Q) := by
  iintro H HK
  iapply (wp_load 𝒱₀ (c : Thread nD τ) none Set.univ (m := ownM) (S := Finset.univ) (Finset.subset_univ _)) $$ H
  iexact HK

/-- A store to columns of the own buffer. -/
theorem own_store (c : Dev nD) (Q : PUnit.{1} → sProp 𝕄) (r : Rect S8x128) {hx hm} (f : Buf (Elt F) ((c : Thread nD τ).loc cc0_scratch1))
    (w : r.shape.Idx → Elt F .f32) (K : Kern F PUnit) :
    (((c : Thread nD τ).loc cc0_scratch1) ↦{fullShare} f : sProp 𝕄)
      ⊢ iprop(((((c : Thread nD τ).loc cc0_scratch1) ↦{fullShare} ((ownM.access r).write (Elt F) f w Finset.univ)) -∗ runs c K Q)
        -∗ runs c (.op (.store ownM r w Finset.univ hx hm) fun _ => K) Q) := by
  iintro H HK
  iapply (wp_store 𝒱₀ (c : Thread nD τ) none Set.univ (m := ownM) (r := r) (Mk := Finset.univ) (S := Finset.univ) (Finset.subset_univ _)) $$ H
  iexact HK

/-! ## From the gathered results to the output -/

/-- Head `s` of the output is right for every head that is not in `l` any more. -/
def Done (ps : Dev nD → Part F) (l : List (Fin 8)) (X : S8x1x8x64.Idx → Elt F .f32) : Prop :=
  ∀ s, s ∉ l → ∀ x : S8x1x1x64.Idx, X ((headR s).emb x) = merged (ps (lower s)) (ps (upper s)) x

/-- The output: for each head, its two partial results combined. -/
def outOf (ps : Dev nD → Part F) : S8x1x8x64.Idx → Elt F .f32 := fun x =>
  have s : Fin 8 := x 2
  merged (ps (lower s)) (ps (upper s)) (ix4 (n0 := 8) (n1 := 1) (n2 := 1) (n3 := 64) (x 0) 0 0 (x 3))

theorem head_emb (b : Fin 8) (s : Fin 8) (d : Fin 64) :
    (headR s).emb (ix4 (n0 := 8) (n1 := 1) (n2 := 1) (n3 := 64) b 0 0 d) = ix4 (n0 := 8) (n1 := 1) (n2 := 8) (n3 := 64) b 0 s d :=
  funext fun a => Fin.ext (by
    fin_cases a
    · show 0 + 1 * b.val = b.val; omega
    · rfl
    · rfl
    · show 0 + 1 * d.val = d.val; omega)

/-- When every head is right, the output is right. -/
theorem done_nil {ps : Dev nD → Part F} {X : S8x1x8x64.Idx → Elt F .f32} (h : Done ps [] X) : X = outOf ps := by
  funext x
  have h' := h (x 2) List.not_mem_nil (ix4 (n0 := 8) (n1 := 1) (n2 := 1) (n3 := 64) (x 0) 0 0 (x 3))
  refine Eq.trans (congrArg X ?_) h'
  refine Eq.trans ?_ (head_emb (x 0) (x 2) (x 3)).symm
  refine (eq_ix4 (n0 := 8) (n1 := 1) (n2 := 8) (n3 := 64) x).trans ?_
  rw [show x 1 = (0 : Fin 1) from Subsingleton.elim (α := Fin 1) _ _]
  rfl

theorem head_notMem (s s' : Fin 8) (h : s' ≠ s) (x : S8x1x1x64.Idx) : (headR s').emb x ∉ Finset.univ.map (headR s).emb := by
  intro hm
  obtain ⟨y, -, hy⟩ := Finset.mem_map.mp hm
  have e : s.val + 1 * (y 2).val = s'.val + 1 * (x 2).val := congrArg (fun z : S8x1x8x64.Idx => (z 2).val) hy
  have hy1 : (y 2).val < 1 := (y 2).isLt
  have hx1 : (x 2).val < 1 := (x 2).isLt
  exact h (Fin.ext (by omega))

/-- Storing one head's combination makes that head right and leaves the others. -/
theorem done_cons {a3 : Memref sig .tc .vmem S8x1x8x64 .f32} {ps : Dev nD → Part F} {s : Fin 8} {l : List (Fin 8)}
    {f : a3.view.ty.Contents (Elt F)} {w : FVec F S8x1x1x64 .f32}
    (h : Done ps (s :: l) (a3.view.read (Elt F) f)) (hw : w = merged (ps (lower s)) (ps (upper s))) :
    Done ps l (a3.view.read (Elt F) ((a3.access (headR s)).write (Elt F) f w Finset.univ)) := by
  intro s' hs' x
  by_cases e : s' = s
  · subst e; rw [← hw]
    exact View.read_slice_write_emb (headR s') _ _ (Finset.mem_univ x)
  · refine (View.read_slice_write_of_not_mem (headR s) _ _ _ (head_notMem s s' e x)).trans (h s' ?_ x)
    simp only [List.mem_cons, not_or]; exact ⟨e, hs'⟩

/-- Between the combinations: the gathered results, and the output right for the heads already done. -/
def combE (c : Dev nD) (a3 : Memref sig .tc .vmem S8x1x8x64 .f32) (ps : Dev nD → Part F) (l : List (Fin 8)) : sProp 𝕄 :=
  iprop((∃ g : Buf (Elt F) ((c : Thread nD τ).loc cc0_scratch0), ⌜∀ i, Fits (ps i) ((slotM i).view.read (Elt F) g)⌝
      ∗ ((c : Thread nD τ).loc cc0_scratch0) ↦{fullShare} g)
    ∗ ∃ f, ⌜Done ps l (a3.view.read (Elt F) f)⌝ ∗ (a3.view.loc (c : Thread nD τ) ↦[a3.view.set]{fullShare} f))

theorem comb_step (c : Dev nD) (a3 : Memref sig .tc .vmem S8x1x8x64 .f32) (ps : Dev nD → Part F) (Q : PUnit.{1} → sProp 𝕄)
    (s : Fin 8) (l : List (Fin 8)) (K : Kern F PUnit) :
    iprop(combE c a3 ps (s :: l) ∗ emp) ⊢ iprop((combE c a3 ps l ∗ emp -∗ runs c K Q) -∗ runs c (combineOp a3 s K) Q) := by
  unfold combE combineOp
  iintro ⟨⟨⟨%g, %hg, Hg⟩, ⟨%f, %hf, Hf⟩⟩, -⟩ HK
  iapply (wp_load 𝒱₀ (c : Thread nD τ) none Set.univ (m := commM) (S := Finset.univ) (Finset.subset_univ _)) $$ Hg
  iintro Hg
  iapply (wp_load 𝒱₀ (c : Thread nD τ) none Set.univ (m := commM) (S := Finset.univ) (Finset.subset_univ _)) $$ Hg
  iintro Hg
  iapply (wp_load 𝒱₀ (c : Thread nD τ) none Set.univ (m := a3) (S := a3.view.set) (View.setOn_subset_set _ _)) $$ Hf
  iintro Hf
  iapply (wp_store 𝒱₀ (c : Thread nD τ) none Set.univ (m := a3) (r := headR s) (Mk := Finset.univ) (S := a3.view.set) (View.set_slice_subset _ (headR s))) $$ Hf
  iintro Hf
  iapply HK
  isplitl [Hg Hf]
  · isplitl [Hg]
    · iexists g
      isplitr
      · ipureintro; exact hg
      · iexact Hg
    · iexists _
      isplitr; swap
      · iexact Hf
      ipureintro
      exact done_cons hf (combine_eq (hg (lower s)) (hg (upper s)))
  · iempintro

end Cert.KernelIdeal.Flash
-- ==== Proof.Body.lean ====
module

public import proofs.«01_k».proof.Proof.Memory
public import Idealize.ShloMosaic.Harness.Basic

/-! # One device's run of the kernel

The body at a symbolic device: from the rights the device holds when it enters, to the output and all
semaphores back at zero. -/

@[expose] public section

noncomputable section

namespace Cert.KernelIdeal.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves
open Idealize.ShloMosaic.Smoke (bigSep_pair bigSep_unpair)
open Cert.KernelIdeal Cert.KernelIdeal.Gen

variable {F : FTy → Type} [FloatOps F]

local notation "𝕄" => MT nD τ sig Unit (Elt F) ℕ UU ℕ

variable (ps : Dev nD → Part F) (κ : GSem nD τ sig → ℕ) (c : Dev nD)

/-- What every slot is to hold: its device's partial result. -/
abbrev right (ps : Dev nD → Part F) : Dev nD → SlotPred F := fun i => Fits (ps i)

/-- The copy of the own partial result into the own slot, and its wait. -/
def copyProg (K : Kern F PUnit) : Kern F PUnit :=
  .op (.enqueueDma ownM (.here (slotM c)) (.dma selfSem) ownM_wordExact (slotM_wordExact c) ⟨Or.inl rfl, trivial⟩) fun _ =>
  .op (.waitDma2 selfSem ownM (slotM c) ownM_wordExact (slotM_wordExact c)) fun _ => K

/-- From the operands to the own partial result. -/
theorem partial_run (Q : PUnit.{1} → sProp 𝕄) (a0 : Memref sig .tc .vmem S8x1x8x64 .bf16) (a1 a2 : Memref sig .tc .vmem S8x1x64x512 .bf16)
    (q : Vec F S8x1x8x64 .bf16) (k v : Vec F S8x1x64x512 .bf16) (K : Kern F PUnit) :
    iprop(owns (c : Thread nD τ) a0 fullShare q ∗ owns (c : Thread nD τ) a1 fullShare k ∗ owns (c : Thread nD τ) a2 fullShare v
        ∗ ∃ f, ((c : Thread nD τ).loc cc0_scratch1) ↦{fullShare} f)
      ⊢ iprop((owns (c : Thread nD τ) a0 fullShare q ∗ owns (c : Thread nD τ) a1 fullShare k ∗ owns (c : Thread nD τ) a2 fullShare v
          ∗ ownsSat (c : Thread nD τ) ownM fullShare (Fits (partOf c q k v)) -∗ runs c (copyProg c K) Q)
        -∗ runs c (partialProg a0 a1 a2 c K) Q) := by
  unfold partialProg
  iintro ⟨Hq, Hk, Hv, ⟨%f, Hf⟩⟩ HK
  iapply (wp_load_full c Q a0 inb_S8x1x8x64_S8x1x8x64_0_0_0_0 q) $$ Hq
  iintro Hq
  iapply (wp_load_full c Q a1 inb_S8x1x64x512_S8x1x64x512_0_0_0_0 k) $$ Hk
  iintro Hk
  iapply (wp_load_full c Q a2 inb_S8x1x64x512_S8x1x64x512_0_0_0_0 v) $$ Hv
  iintro Hv
  iapply (own_load c Q oR) $$ Hf
  iintro Hf
  iapply (own_store c Q oR) $$ Hf
  iintro Hf
  iapply (own_load c Q mR) $$ Hf
  iintro Hf
  iapply (own_store c Q mR) $$ Hf
  iintro Hf
  iapply (own_load c Q lR) $$ Hf
  iintro Hf
  iapply (own_store c Q lR) $$ Hf
  iintro Hf
  unfold copyProg
  iapply HK
  isplitl [Hq]; · iexact Hq
  isplitl [Hk]; · iexact Hk
  isplitl [Hv]; · iexact Hv
  rw [own_whole]
  iexists _
  isplitr; swap
  · iexact Hf
  · ipureintro; exact stored (partOf c q k v) f

/-- What the device enters with: its place on each semaphore, its rights to pay, and its rights to wait. -/
def rights : sProp 𝕄 :=
  iprop(records (right ps) κ ∗ levAts L lv ∗ cred (tallyAt (barCell c) () 15)
    ∗ (bigSep Finset.univ fun i => if c = i then iprop(emp) else cred (tallyAt (recvCell c i) () N))
    ∗ atPos ER (barCell c) 0 ∅ 0
    ∗ (atPos ER (selfCell c) 0 ∅ 0 ∗ reached ER (selfCell c) 0)
    ∗ ((bigSep Finset.univ fun j => atPos ER (sendCell c j) 0 ∅ 0) ∗ bigSep Finset.univ fun j => reached ER (sendCell c j) 0)
    ∗ ((bigSep Finset.univ fun i => atPos ER (recvCell c i) 0 ∅ 0) ∗ bigSep Finset.univ fun i => reached ER (recvCell c i) 0)
    ∗ dutyTok ER (selfCell c) 0 c
    ∗ (bigSep Finset.univ fun j => dutyTok ER (barCell j) 0 c)
    ∗ (bigSep Finset.univ fun j => dutyTok ER (recvCell j c) 0 c)
    ∗ bigSep Finset.univ fun j => dutyTok ER (sendCell c j) 0 j)

/-- All semaphores of the exchange back at zero. -/
def atRest : sProp 𝕄 :=
  iprop(semVal (barCell c) 0 ∗ semVal (selfCell c) 0 ∗ (bigSep Finset.univ fun j => semVal (sendCell c j) 0)
    ∗ bigSep Finset.univ fun i => semVal (recvCell c i) 0)

/-- The device's memory: the operands, the output meeting a predicate, and the two scratch buffers at anything. -/
def mem (a0 : Memref sig .tc .vmem S8x1x8x64 .bf16) (a1 a2 : Memref sig .tc .vmem S8x1x64x512 .bf16) (a3 : Memref sig .tc .vmem S8x1x8x64 .f32)
    (q : Vec F S8x1x8x64 .bf16) (k v : Vec F S8x1x64x512 .bf16) (P : (S8x1x8x64.Idx → Elt F .f32) → Prop) : sProp 𝕄 :=
  iprop(owns (c : Thread nD τ) a0 fullShare q ∗ owns (c : Thread nD τ) a1 fullShare k ∗ owns (c : Thread nD τ) a2 fullShare v
    ∗ ownsSat (c : Thread nD τ) a3 fullShare P
    ∗ (∃ f, ((c : Thread nD τ).loc cc0_scratch0) ↦{fullShare} f) ∗ ∃ f, ((c : Thread nD τ).loc cc0_scratch1) ↦{fullShare} f)

/-- At the end every semaphore of the exchange is back at zero. -/
theorem close_all :
    iprop(records (right ps) κ ∗ atPos ER (barCell c) 1 ∅ 0 ∗ atPos ER (selfCell c) 1 ∅ 0
        ∗ (bigSep Finset.univ fun j => atPos ER (sendCell c j) (if c = j then 0 else 1) ∅ 0)
        ∗ bigSep Finset.univ fun i => atPos ER (recvCell c i) (if c = i then 0 else 1) ∅ 0)
      ⊢ (|={Set.univ}=> atRest c : sProp 𝕄) := by
  iintro ⟨#HR, Hb, Hs, Hsend, Hrecv⟩
  ihave Hsend := (bigSep_with_persistent (S := Finset.univ) (R := records (right ps) κ) (Φ := fun j => atPos ER (sendCell c j) (if c = j then 0 else 1) ∅ 0)
    (Ψ := fun j => iprop(|={Set.univ}=> semVal (sendCell c j) 0)) fun j _ => close_at (right ps) κ (send_mem c j) _ (send_closed (right ps) c j)) $$ [Hsend]
  · isplitr; · iexact HR
    iexact Hsend
  ihave Hrecv := (bigSep_with_persistent (S := Finset.univ) (R := records (right ps) κ) (Φ := fun j => atPos ER (recvCell c j) (if c = j then 0 else 1) ∅ 0)
    (Ψ := fun j => iprop(|={Set.univ}=> semVal (recvCell c j) 0)) fun j _ => close_at (right ps) κ (recv_mem c j) _ (recv_closed (right ps) c j)) $$ [Hrecv]
  · isplitr; · iexact HR
    iexact Hrecv
  imod (bigSep_fupd Finset.univ fun j => semVal (sendCell c j) 0) $$ Hsend with Hsend
  imod (bigSep_fupd Finset.univ fun j => semVal (recvCell c j) 0) $$ Hrecv with Hrecv
  imod (close_at (right ps) κ (bar_mem c) 1 (duties_later (right ps) (barCell c))) $$ [Hb] with Hb
  · isplitr; · iexact HR
    iexact Hb
  imod (close_at (right ps) κ (self_mem c) 1 (duties_later (right ps) (selfCell c))) $$ [Hs] with Hs
  · isplitr; · iexact HR
    iexact Hs
  imodintro
  unfold atRest
  isplitl [Hb]; · iexact Hb
  isplitl [Hs]; · iexact Hs
  isplitl [Hsend]; · iexact Hsend
  iexact Hrecv

/-- The own part of a family joined with the other devices' parts. -/
theorem join_own (Φ : Dev nD → sProp 𝕄) :
    iprop(Φ c ∗ bigSep Finset.univ fun j => if c = j then iprop(emp) else Φ j) ⊢ bigSep Finset.univ Φ :=
  Entails.of_eq (split_own c Φ).symm

/-- A finished program needs its postcondition, which may be reached by an update. -/
theorem runs_ret (Q : PUnit.{1} → sProp 𝕄) : (|={Set.univ}=> Q ⟨⟩ : sProp 𝕄) ⊢ runs c (.ret ⟨⟩) Q := by
  unfold runs
  rw [wp_ret]

/-- The combinations need no rights of their own. -/
theorem no_rights (l : List (Fin 8)) : (bigSepL l fun _ => iprop(emp) : sProp 𝕄) = BI.emp := by
  induction l with
  | nil => rfl
  | cons i l ih => rw [sepL_cons, ih]; exact Entails.antisymm BI.emp_sep.1 BI.emp_sep.2

set_option maxHeartbeats 4000000 in
/-- One device's run: it ends, with the operands as they were, the output right, and every semaphore at zero. -/
theorem body_run (Q : PUnit.{1} → sProp 𝕄) (a0 : Memref sig .tc .vmem S8x1x8x64 .bf16) (a1 a2 : Memref sig .tc .vmem S8x1x64x512 .bf16)
    (a3 : Memref sig .tc .vmem S8x1x8x64 .f32) (q : Vec F S8x1x8x64 .bf16) (k v : Vec F S8x1x64x512 .bf16) (hp : ps c = partOf c q k v) :
    iprop(rights ps κ c ∗ mem c a0 a1 a2 a3 q k v (fun _ => True) ∗ ∃ W, owes (c : Thread nD τ) (O₀ c) W)
      ⊢ iprop((atRest c ∗ mem c a0 a1 a2 a3 q k v (· = outOf ps) ∗ (∃ W, owes (c : Thread nD τ) (0 : CellTallies nD τ sig Unit) W) -∗ Q ⟨⟩)
        -∗ runs c (bodyProg a0 a1 a2 a3) Q) := by
  have hG : ∀ f g, right ps c (ownM.view.read (Elt F) f) →
      right ps c ((slotM c).view.read (Elt F) ((slotM c).view.write (Elt F) g (ownM.view.read (Elt F) f) Finset.univ)) :=
    fun f g h => copied (ps c) c f g h
  unfold rights mem bodyProg
  simp only [wp_deviceId]
  iintro ⟨⟨#HR, #Hlev, HcB, HcR, HatB, ⟨HatS, #HrS⟩, ⟨HatSd, #HrSd⟩, ⟨HatRv, #HrRv⟩, HtS, HtB, HtR, HtSd⟩, ⟨Hq, Hk, Hv, Hout, ⟨%fc, Hcomm⟩, Hown⟩, ⟨%W, HO⟩⟩ HK
  ihave Hslots := (comm_split c fc) $$ Hcomm
  -- the signals
  iapply (walk c Q (sigOp c) (sigE (right ps) κ c) (sigPre c) (sigPost c) (sig_step (right ps) κ c Q)) $$ [HO HtB Hslots]
  · isplitl [HO]
    · unfold sigE
      isplitr; · iexact HR
      iexists W; iexact HO
    · iapply (Entails.of_eq (over_devs (sigPre c)))
      iapply (bigSep_pair (Φ := fun j => dutyTok ER (barCell j) 0 c) (Ψ := fun j => iprop(slotSat c j anyP ∗ reached ER (recvCell c j) 0)))
      isplitl [HtB]; · iexact HtB
      iapply (bigSep_pair (Φ := fun j => slotSat c j anyP) (Ψ := fun j => reached ER (recvCell c j) 0))
      isplitl [Hslots]; · iexact Hslots
      iexact HrRv
  iintro ⟨HE, Hpost⟩
  ihave Hslot := (Entails.of_eq ((over_devs (sigPost c)).symm.trans (only_own c (slotSat c c anyP)))) $$ Hpost
  unfold sigE
  icases HE with ⟨-, ⟨%W1, HO⟩⟩
  ihave HO := (Entails.of_eq (show (owes (c : Thread nD τ) (landings c + (([] : List (Dev nD)).map (oweB c)).sum) W1 : sProp 𝕄) = owes (c : Thread nD τ) (landings c) W1 from by
    rw [List.map_nil, List.sum_nil, add_zero])) $$ HO
  -- all other devices are in
  iapply (bar_step (right ps) κ c Q W1) $$ [HcB HO HatB]
  · isplitr; · iexact HR
    isplitr; · iexact Hlev
    isplitl [HcB]; · iexact HcB
    isplitl [HO]; · iexact HO
    iexact HatB
  iintro ⟨⟨%W2, HO⟩, HatB, Hbar⟩
  -- the own partial result
  iapply (partial_run c Q a0 a1 a2 q k v) $$ [Hq Hk Hv Hown]
  · isplitl [Hq]; · iexact Hq
    isplitl [Hk]; · iexact Hk
    isplitl [Hv]; · iexact Hv
    iexact Hown
  iintro ⟨Hq, Hk, Hv, Hown⟩
  ihave Hshares := (Entails.of_eq ((congrArg (fun p => (ownsSat (c : Thread nD τ) ownM fullShare (Fits p) : sProp 𝕄)) hp.symm).trans
    ((own_shares c (right ps c)).trans (split_own c fun j => ownSat c j (right ps c))))) $$ Hown
  icases Hshares with ⟨Hmine, Hshares⟩
  unfold copyProg
  iapply (self_step (right ps) κ c Q hG W2) $$ [HO HatS HtS Hslot Hmine]
  · isplitr; · iexact HR
    isplitr; · iexact Hlev
    isplitl [HO]; · iexact HO
    isplitl [HatS]; · iexact HatS
    isplitr; · iexact HrS
    isplitl [HtS]; · iexact HtS
    isplitl [Hslot]; · iexact Hslot
    iexact Hmine
  iintro ⟨⟨%W3, HO⟩, HatS, Hslot, Hmine⟩
  -- the copies to the others
  iapply (walk c Q (sendOp c) (sendE (right ps) κ c) (sendPre (right ps) c) (sendPost c) (send_step (right ps) κ c Q hG)) $$ [HO Hbar Hshares HtR HtSd]
  · isplitl [HO]
    · unfold sendE
      isplitr; · iexact HR
      iexists W3; iexact HO
    · iapply (Entails.of_eq (over_devs (sendPre (right ps) c)))
      iapply (bigSep_pair (Φ := fun j => if c = j then iprop(emp) else barPay c j)
        (Ψ := fun j => iprop((if c = j then iprop(emp) else ownSat c j (right ps c)) ∗ dutyTok ER (recvCell j c) 0 c ∗ dutyTok ER (sendCell c j) 0 j ∗ reached ER (sendCell c j) 0)))
      isplitl [Hbar]; · iexact Hbar
      iapply (bigSep_pair (Φ := fun j => if c = j then iprop(emp) else ownSat c j (right ps c))
        (Ψ := fun j => iprop(dutyTok ER (recvCell j c) 0 c ∗ dutyTok ER (sendCell c j) 0 j ∗ reached ER (sendCell c j) 0)))
      isplitl [Hshares]; · iexact Hshares
      iapply (bigSep_pair (Φ := fun j => dutyTok ER (recvCell j c) 0 c) (Ψ := fun j => iprop(dutyTok ER (sendCell c j) 0 j ∗ reached ER (sendCell c j) 0)))
      isplitl [HtR]; · iexact HtR
      iapply (bigSep_pair (Φ := fun j => dutyTok ER (sendCell c j) 0 j) (Ψ := fun j => reached ER (sendCell c j) 0))
      isplitl [HtSd]; · iexact HtSd
      iexact HrSd
  iintro ⟨HE, Hpost⟩
  ihave HcSd := (Entails.of_eq (over_devs (sendPost c)).symm) $$ Hpost
  unfold sendE
  icases HE with ⟨-, ⟨%W4, HO⟩⟩
  ihave HO := (Entails.of_eq (show (owes (c : Thread nD τ) (([] : List (Dev nD)).map (oweR c)).sum W4 : sProp 𝕄) = owes (c : Thread nD τ) 0 W4 from by
    rw [List.map_nil, List.sum_nil])) $$ HO
  -- the others' partial results
  iapply (walk c Q (recvOp c) (fun _ => quietE (right ps) κ c) (recvPre c) (recvPost (right ps) c) (fun i l K => recv_step (right ps) κ c Q i l K)) $$ [HO HcR HatRv]
  · isplitl [HO]
    · unfold quietE
      isplitr; · iexact HR
      iexists W4; iexact HO
    · iapply (Entails.of_eq (over_devs (recvPre c)))
      iapply (bigSep_pair (Φ := fun i => if c = i then iprop(emp) else cred (tallyAt (recvCell c i) () N)) (Ψ := fun i => atPos ER (recvCell c i) 0 ∅ 0))
      isplitl [HcR]; · iexact HcR
      iexact HatRv
  iintro ⟨HE, Hpost⟩
  ihave Hpost := ((Entails.of_eq (over_devs (recvPost (right ps) c)).symm).trans (bigSep_unpair (Φ := fun i => atPos ER (recvCell c i) (if c = i then 0 else 1) ∅ 0)
    (Ψ := fun i => if c = i then iprop(emp) else slotSat c i (right ps i)))) $$ Hpost
  icases Hpost with ⟨HatRv, Hslots⟩
  ihave Hcomm := (join_own c fun i => slotSat c i (right ps i)) $$ [Hslot Hslots]
  · isplitl [Hslot]; · iexact Hslot
    iexact Hslots
  ihave Hcomm := (comm_join c (right ps)) $$ Hcomm
  -- the combinations
  iapply (walk c Q (combineOp a3) (combE c a3 ps) (fun _ => iprop(emp)) (fun _ => iprop(emp)) (comb_step c a3 ps Q)) $$ [Hcomm Hout]
  · isplitl [Hcomm Hout]
    · unfold combE ownsSat
      isplitl [Hcomm]; · iexact Hcomm
      icases Hout with ⟨%f, -, Hf⟩
      iexists f
      isplitr
      · ipureintro
        intro s hs
        exact absurd (by revert s; decide) hs
      · iexact Hf
    · rw [no_rights]
      iempintro
  iintro ⟨HC, -⟩
  unfold combE
  icases HC with ⟨⟨%g, -, Hcomm⟩, ⟨%fo, %hfo, Hout⟩⟩
  -- the own copies have left
  iapply (walk c Q (drainOp c) (fun _ => quietE (right ps) κ c) (drainPre c) (drainPost c) (fun i l K => drain_step (right ps) κ c Q i l K)) $$ [HE HcSd HatSd]
  · isplitl [HE]; · iexact HE
    iapply (Entails.of_eq (over_devs (drainPre c)))
    iapply (bigSep_pair (Φ := fun j => if c = j then iprop(emp) else cred (tallyAt (sendCell c j) () N)) (Ψ := fun j => atPos ER (sendCell c j) 0 ∅ 0))
    isplitl [HcSd]; · iexact HcSd
    iexact HatSd
  iintro ⟨HE, Hpost⟩
  ihave Hpost := ((Entails.of_eq (over_devs (drainPost c)).symm).trans (bigSep_unpair (Φ := fun j => atPos ER (sendCell c j) (if c = j then 0 else 1) ∅ 0)
    (Ψ := fun j => if c = j then iprop(emp) else ownSat c j anyP))) $$ Hpost
  icases Hpost with ⟨HatSd, Hshares⟩
  ihave Hown := (join_own c fun j => ownSat c j anyP) $$ [Hmine Hshares]
  · isplitl [Hmine]; · iexact Hmine
    iexact Hshares
  ihave Hown := (Entails.of_eq ((own_shares c anyP).symm.trans (own_whole c anyP))) $$ Hown
  icases Hown with ⟨%fw, -, Hown⟩
  unfold quietE
  icases HE with ⟨-, HO⟩
  iapply (runs_ret c Q)
  imod (close_all ps κ c) $$ [HatB HatS HatSd HatRv] with Hrest
  · isplitr; · iexact HR
    isplitl [HatB]; · iexact HatB
    isplitl [HatS]; · iexact HatS
    isplitl [HatSd]; · iexact HatSd
    iexact HatRv
  imodintro
  iapply HK
  isplitl [Hrest]; · iexact Hrest
  isplitr [HO]; swap; · iexact HO
  isplitl [Hq]; · iexact Hq
  isplitl [Hk]; · iexact Hk
  isplitl [Hv]; · iexact Hv
  isplitl [Hout]
  · unfold ownsSat
    iexists fo
    isplitr
    · ipureintro; exact done_nil hfo
    · iexact Hout
  isplitl [Hcomm]
  · iexists g; iexact Hcomm
  · iexists fw; iexact Hown

end Cert.KernelIdeal.Flash
-- ==== Proof.Deal.lean ====
module

public import proofs.«01_k».proof.Proof.Body
public import Idealize.ShloMosaic.Lib.Pipeline.Launch

/-! # What the launch deals out

From the resources that the launch mints for the whole machine to each device's share of them: its place on
its semaphores, the rights to pay what it pays, and the rights to wait for what it is owed. -/

@[expose] public section

noncomputable section

namespace Cert.KernelIdeal.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves
open Idealize.ShloMosaic.Smoke (bigSep_pair bigSep_unpair)
open Cert.KernelIdeal Cert.KernelIdeal.Gen

variable {F : FTy → Type} [FloatOps F]

local notation "𝕄" => MT nD τ sig Unit (Elt F) ℕ UU ℕ

/-! ## The thirty-three own semaphores -/

def sendKE : Dev nD ↪ Fin 33 := ⟨sendK, by decide +kernel⟩
def recvKE : Dev nD ↪ Fin 33 := ⟨recvK, by decide +kernel⟩

theorem univ33 : (Finset.univ : Finset (Fin 33)) = insert selfK (Finset.univ.map sendKE ∪ Finset.univ.map recvKE) := by decide +kernel

/-- A family over the own semaphores is its three groups. -/
theorem own_cells (Φ : SemLoc sig → sProp 𝕄) :
    (bigSep Finset.univ fun k : Fin 33 => Φ (osem k))
      = iprop(Φ (.dma selfSem) ∗ (bigSep Finset.univ fun j : Dev nD => Φ (.dma (sendSem j))) ∗ bigSep Finset.univ fun i : Dev nD => Φ (.dma (recvSem i))) := by
  rw [univ33, bigSep_insert (by decide +kernel), bigSep_union (by decide +kernel), bigSep_map, bigSep_map, osem_self]
  have e1 : (bigSep Finset.univ fun j : Dev nD => Φ (osem (sendKE j))) = bigSep Finset.univ fun j : Dev nD => Φ (.dma (sendSem j)) :=
    bigSep_congr fun j _ => congrArg Φ (osem_send j)
  have e2 : (bigSep Finset.univ fun j : Dev nD => Φ (osem (recvKE j))) = bigSep Finset.univ fun j : Dev nD => Φ (.dma (recvSem j)) :=
    bigSep_congr fun j _ => congrArg Φ (osem_recv j)
  rw [e1, e2]
  rfl

/-! ## The rights to pay -/

/-- A cell with a payer, as a right to pay in round 0. -/
def tokEmb : GSem nD τ sig × Dev nD ↪ GSem nD τ sig × ℕ × Dev nD :=
  ⟨fun x => (x.1, 0, x.2), fun x y h => Prod.ext (congrArg (·.1) h) (congrArg (·.2.2) h)⟩
/-- A right to pay for each barrier and each device. -/
def barToks : Finset (GSem nD τ sig × ℕ × Dev nD) :=
  (Finset.univ : Finset (Dev nD × Dev nD)).map ((barEmb.prodMap (Function.Embedding.refl _)).trans tokEmb)
/-- A right to pay for each own semaphore and each device. -/
def ownToks : Finset (GSem nD τ sig × ℕ × Dev nD) :=
  (Finset.univ : Finset ((Dev nD × Fin 33) × Dev nD)).map ((scEmb.prodMap (Function.Embedding.refl _)).trans tokEmb)
/-- A right to pay for each cell and each device. -/
def talkToks : Finset (GSem nD τ sig × ℕ × Dev nD) := barToks ∪ ownToks

theorem disjoint_toks : Disjoint barToks ownToks := by
  rw [Finset.disjoint_left]
  intro x h₁ h₂
  obtain ⟨a, -, rfl⟩ := Finset.mem_map.mp h₁
  obtain ⟨b, -, h⟩ := Finset.mem_map.mp h₂
  exact dma_ne_bar _ (congrArg (fun x : GSem nD τ sig × ℕ × Dev nD => x.1.2) h)

/-- The rights to pay that device `c` uses. -/
def toks (c : Dev nD) : sProp 𝕄 :=
  iprop(dutyTok ER (selfCell c) 0 c
    ∗ (bigSep Finset.univ fun j => dutyTok ER (barCell j) 0 c)
    ∗ (bigSep Finset.univ fun j => dutyTok ER (recvCell j c) 0 c)
    ∗ bigSep Finset.univ fun j => dutyTok ER (sendCell c j) 0 j)

theorem barCells_eq (Φ : GSem nD τ sig → sProp 𝕄) : bigSep barCells Φ = bigSep Finset.univ fun c : Dev nD => Φ (barCell c) :=
  bigSep_map (s := Finset.univ) barEmb (Φ := Φ)
theorem scCells_eq (Φ : GSem nD τ sig → sProp 𝕄) :
    bigSep scCells Φ = bigSep Finset.univ fun c : Dev nD => bigSep Finset.univ fun k : Fin 33 => Φ ((c : Thread nD τ), osem k) := by
  rw [bigSep_map, bigSep_univ_prod]; rfl

theorem toks_deal : (bigSep talkToks fun x => (dutyTok ER x.1 x.2.1 x.2.2 : sProp 𝕄)) ⊢ bigSep Finset.univ fun c : Dev nD => (toks c : sProp 𝕄) := by
  have hown (c : Dev nD) : (bigSep Finset.univ fun k : Fin 33 => bigSep Finset.univ fun d : Dev nD => (dutyTok ER ((c : Thread nD τ), osem k) 0 d : sProp 𝕄))
      ⊢ iprop(dutyTok ER (selfCell c) 0 c ∗ (bigSep Finset.univ fun j => dutyTok ER (sendCell c j) 0 j) ∗ bigSep Finset.univ fun i => dutyTok ER (recvCell c i) 0 i) := by
    rw [own_cells fun sm => bigSep Finset.univ fun d : Dev nD => (dutyTok ER ((c : Thread nD τ), sm) 0 d : sProp 𝕄)]
    exact sep_mono (bigSep_elim (Finset.mem_univ c)) (sep_mono (bigSep_mono fun j _ => bigSep_elim (Finset.mem_univ j)) (bigSep_mono fun j _ => bigSep_elim (Finset.mem_univ j)))
  have hall : (bigSep talkToks fun x => (dutyTok ER x.1 x.2.1 x.2.2 : sProp 𝕄))
      ⊢ iprop((bigSep Finset.univ fun j : Dev nD => bigSep Finset.univ fun c : Dev nD => dutyTok ER (barCell j) 0 c)
        ∗ bigSep Finset.univ fun c : Dev nD => iprop(dutyTok ER (selfCell c) 0 c ∗ (bigSep Finset.univ fun j => dutyTok ER (sendCell c j) 0 j) ∗ bigSep Finset.univ fun i => dutyTok ER (recvCell c i) 0 i)) := by
    unfold talkToks
    rw [bigSep_union disjoint_toks]
    unfold barToks ownToks
    rw [bigSep_map, bigSep_map, bigSep_univ_prod, bigSep_univ_prod, bigSep_univ_prod]
    exact sep_mono .rfl (bigSep_mono fun c _ => hown c)
  refine hall.trans ?_
  have hb := BI.bigSep_univ_comm (M := 𝕄) fun j c : Dev nD => (dutyTok ER (barCell j) 0 c : sProp 𝕄)
  have hr := BI.bigSep_univ_comm (M := 𝕄) fun j c : Dev nD => (dutyTok ER (recvCell j c) 0 c : sProp 𝕄)
  unfold toks
  iintro ⟨HB, HO⟩
  ihave HO := bigSep_unpair $$ HO
  icases HO with ⟨HS, HO⟩
  ihave HO := bigSep_unpair $$ HO
  icases HO with ⟨HSd, HR⟩
  iapply bigSep_pair
  isplitl [HS]; · iexact HS
  iapply bigSep_pair
  isplitl [HB]; · iapply (Entails.of_eq hb) $$ HB
  iapply bigSep_pair
  isplitl [HR]; · iapply (Entails.of_eq hr) $$ HR
  iexact HSd

/-! ## The rights to wait -/

theorem devs_sum {A : Type} [AddCommMonoid A] (f : Dev nD → A) : (devs.map f).sum = ∑ j : Dev nD, f j := by
  rw [← List.sum_toFinset f (by decide : devs.Nodup)]
  exact congrArg (fun s => Finset.sum s f) (by decide)

theorem sum_at {D : Type} (s : Finset D) (f : D → CellTallies nD τ sig Unit) (g : GSem nD τ sig) :
    (∑ j ∈ s, f j) g () = ∑ j ∈ s, f j g () := by
  rw [Finset.sum_apply, Finsupp.finsetSum_apply]

theorem barCell_inj {c j : Dev nD} (h : barCell c = barCell j) : c = j := congrArg (fun g : GSem nD τ sig => g.1.1) h
theorem recvCell_inj {c j i d : Dev nD} (h : recvCell c i = recvCell j d) : c = j ∧ i = d :=
  ⟨congrArg (fun g : GSem nD τ sig => g.1.1) h, recv_inj _ _ (SemLoc.dma.inj (congrArg Prod.snd h))⟩
theorem recv_ne_bar {c i j : Dev nD} : recvCell c i ≠ barCell j := fun h => dma_ne_bar _ (congrArg Prod.snd h)

theorem oweB_at (d j c : Dev nD) : oweB d j (barCell c) () = if j = c then (if d = c then 0 else 1) else 0 := by
  unfold oweB
  by_cases h : j = c
  · subst h
    rw [if_pos rfl]
    by_cases h' : d = j
    · rw [if_pos h', if_pos h']; rfl
    · rw [if_neg h', if_neg h', tallyAt_apply, if_pos ⟨rfl, rfl⟩]
  · rw [if_neg h]
    split
    · rfl
    · rw [tallyAt_apply, if_neg fun e => h (barCell_inj e.1).symm]
theorem oweR_bar (d j c : Dev nD) : oweR d j (barCell c) () = 0 := by
  unfold oweR
  split
  · rfl
  · rw [tallyAt_apply, if_neg fun e => recv_ne_bar e.1.symm]
theorem oweB_recv (d j c i : Dev nD) : oweB d j (recvCell c i) () = 0 := by
  unfold oweB
  split
  · rfl
  · rw [tallyAt_apply, if_neg fun e => recv_ne_bar e.1]
theorem oweR_at (d j c i : Dev nD) (hi : c ≠ i) : oweR d j (recvCell c i) () = if j = c then (if d = i then N else 0) else 0 := by
  unfold oweR
  by_cases h : j = c
  · subst h
    rw [if_pos rfl]
    by_cases h' : d = i
    · subst h'; rw [if_neg (Ne.symm hi), if_pos rfl, tallyAt_apply, if_pos ⟨rfl, rfl⟩]
    · rw [if_neg h']
      split
      · rfl
      · rw [tallyAt_apply, if_neg fun e => h' (recvCell_inj e.1).2.symm]
  · rw [if_neg h]
    split
    · rfl
    · rw [tallyAt_apply, if_neg fun e => h (recvCell_inj e.1).1.symm]

theorem owed_bar (d c : Dev nD) : O₀ d (barCell c) () = if d = c then 0 else 1 := by
  unfold O₀ landings
  rw [Pi.add_apply, Finsupp.add_apply, devs_sum, devs_sum, sum_at, sum_at, Finset.sum_congr rfl fun j _ => oweR_bar d j c, Finset.sum_const_zero, Nat.zero_add,
    Finset.sum_congr rfl fun j _ => oweB_at d j c, Finset.sum_ite_eq' Finset.univ c, if_pos (Finset.mem_univ _)]
theorem owed_recv (d c i : Dev nD) (hi : c ≠ i) : O₀ d (recvCell c i) () = if d = i then N else 0 := by
  unfold O₀ landings
  rw [Pi.add_apply, Finsupp.add_apply, devs_sum, devs_sum, sum_at, sum_at, Finset.sum_congr rfl fun j _ => oweB_recv d j c i, Finset.sum_const_zero, Nat.add_zero,
    Finset.sum_congr rfl fun j _ => oweR_at d j c i hi, Finset.sum_ite_eq' Finset.univ c, if_pos (Finset.mem_univ _)]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel
theorem launch_recv (c i : Dev nD) (hi : c ≠ i) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i hi, Finset.sum_ite_eq' Finset.univ i,
    if_pos (Finset.mem_univ _)]

/-- The rights to wait of device `c`: for the fifteen units at its barrier and for each other device's landing. -/
def waits (c : Dev nD) : sProp 𝕄 :=
  iprop(cred (tallyAt (barCell c) () 15) ∗ bigSep Finset.univ fun i => if c = i then iprop(emp) else cred (tallyAt (recvCell c i) () N))

def recvEmb : Dev nD ↪ SemLoc sig := ⟨fun i => .dma (recvSem i), fun i j h => recv_inj i j (SemLoc.dma.inj h)⟩

theorem waits_deal (c : Dev nD) : (Pipeline.launchCred O₀ c : sProp 𝕄) ⊢ waits c := by
  unfold Pipeline.launchCred waits
  rw [bigSep_univ_at _ (SemLoc.reg barSem), launch_bar]
  refine sep_mono_right ?_
  refine (bigSep_subset (t := Finset.univ.map recvEmb) ?_).trans ?_
  · intro sm h
    obtain ⟨i, -, rfl⟩ := Finset.mem_map.mp h
    exact Finset.mem_erase.mpr ⟨dma_ne_bar _, Finset.mem_univ _⟩
  · rw [bigSep_map]
    refine bigSep_mono fun i _ => ?_
    by_cases h : c = i
    · rw [if_pos h]; exact BI.affine
    · rw [if_neg h]; exact Entails.of_eq (congrArg cred (launch_recv c i h))

/-! ## The deal -/

variable (ps : Dev nD → Part F) (κ : GSem nD τ sig → ℕ)

/-- What device `c` holds from launch until it enters the kernel. -/
def start (c : Dev nD) : sProp 𝕄 :=
  iprop(records (right ps) κ ∗ waits c ∗ atPos ER (barCell c) 0 ∅ 0 ∗ (bigSep Finset.univ fun k : Fin 33 => openTok ER ((c : Thread nD τ), osem k)) ∗ toks c)

/-- With its own semaphores at zero the device opens them, and has all it needs for its run. -/
theorem enter (c : Dev nD) :
    iprop(start ps κ c ∗ (bigSep Finset.univ fun k : Fin 33 => semVal ((c : Thread nD τ), osem k) 0) ∗ levAts L lv) ⊢ (|={Set.univ}=> rights ps κ c : sProp 𝕄) := by
  have hopen (k : Fin 33) : iprop(records (right ps) κ ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) := by
    iintro ⟨#HR, Ho, Hv⟩
    iapply (Rounds.cell_open ER (sched (right ps)) (g := ((c : Thread nD τ), osem k)) (Set.mem_univ (κ ((c : Thread nD τ), osem k))))
    isplitr; · iapply (inv_at (right ps) κ (own_mem c k)); iexact HR
    isplitl [Ho]; · iexact Ho
    iexact Hv
  unfold start waits toks
  iintro ⟨⟨#HR, ⟨HcB, HcR⟩, Hat, Ho, HtS, HtB, HtR, HtSd⟩, Hv, #HL⟩
  ihave H := (bigSep_pair (Φ := fun k : Fin 33 => openTok ER ((c : Thread nD τ), osem k)) (Ψ := fun k : Fin 33 => semVal ((c : Thread nD τ), osem k) 0)) $$ [Ho Hv]
  · isplitl [Ho]; · iexact Ho
    iexact Hv
  ihave H := (bigSep_with_persistent (S := Finset.univ) (R := records (right ps) κ) fun k _ => hopen k) $$ [H]
  · isplitr; · iexact HR
    iexact H
  imod (bigSep_fupd Finset.univ fun k : Fin 33 => iprop(atPos ER ((c : Thread nD τ), osem k) 0 ∅ 0 ∗ reached ER ((c : Thread nD τ), osem k) 0)) $$ H with H
  ihave H := bigSep_unpair $$ H
  icases H with ⟨HA, HD⟩
  ihave HA := (Entails.of_eq (own_cells fun sm => atPos ER ((c : Thread nD τ), sm) 0 ∅ 0)) $$ HA
  ihave HD := (Entails.of_eq (own_cells fun sm => reached ER ((c : Thread nD τ), sm) 0)) $$ HD
  icases HA with ⟨HAs, HAd, HAr⟩
  icases HD with ⟨HDs, HDd, HDr⟩
  imodintro
  unfold rights
  isplitr; · iexact HR
  isplitr; · iexact HL
  isplitl [HcB]; · iexact HcB
  isplitl [HcR]; · iexact HcR
  isplitl [Hat]; · iexact Hat
  isplitl [HAs HDs]
  · isplitl [HAs]; · iexact HAs
    iexact HDs
  isplitl [HAd HDd]
  · isplitl [HAd]; · iexact HAd
    iexact HDd
  isplitl [HAr HDr]
  · isplitl [HAr]; · iexact HAr
    iexact HDr
  isplitl [HtS]; · iexact HtS
  isplitl [HtB]; · iexact HtB
  isplitl [HtR]; · iexact HtR
  iexact HtSd

/-- All semaphores at rest, as the barrier's and the thirty-three own ones. -/
theorem atRest_eq (c : Dev nD) : (atRest c : sProp 𝕄) = iprop(semVal (barCell c) 0 ∗ bigSep Finset.univ fun k : Fin 33 => semVal ((c : Thread nD τ), osem k) 0) := by
  rw [own_cells fun sm => (semVal ((c : Thread nD τ), sm) 0 : sProp 𝕄)]; rfl

/-- The machine's resources dealt to the devices. -/
theorem deal :
    iprop((bigSep Finset.univ fun c : Dev nD => iprop(semVal (barCell c) 0 ∗ Pipeline.launchCred O₀ c)) ∗ BI.own (ER (launchOf barCells scCells talkToks)))
      ⊢ (|={Set.univ}=> ∃ κ, bigSep Finset.univ fun c : Dev nD => start ps κ c : sProp 𝕄) := by
  iintro ⟨H, Hu⟩
  ihave H := bigSep_unpair $$ H
  icases H with ⟨Hv, Hc⟩
  imod (Rounds.fund_launch ER (sched (right ps)) disjoint_cells (fun g _ h => h) talkToks) $$ [Hv Hu] with ⟨%κ, -, #Hinv, #Hr, Hat, Hopen, Htok⟩
  · isplitl [Hv]
    · iapply (Entails.of_eq (barCells_eq fun g => semVal g 0).symm) $$ Hv
    · iexact Hu
  ihave Hc := (show (bigSep Finset.univ fun c : Dev nD => (Pipeline.launchCred O₀ c : sProp 𝕄)) ⊢ bigSep Finset.univ fun c : Dev nD => (waits c : sProp 𝕄) from
    bigSep_mono fun c _ => waits_deal c) $$ Hc
  ihave Hat := (Entails.of_eq (barCells_eq fun g => atPos ER g 0 ∅ 0)) $$ Hat
  ihave Hopen := (Entails.of_eq (scCells_eq fun g => openTok ER g)) $$ Hopen
  ihave Htok := (toks_deal (F := F)) $$ Htok
  imodintro
  iexists κ
  unfold start
  iapply (bigSep_with_persistent (S := Finset.univ) (R := records (right ps) κ)
    (Φ := fun c : Dev nD => iprop(waits c ∗ atPos ER (barCell c) 0 ∅ 0 ∗ (bigSep Finset.univ fun k : Fin 33 => openTok ER ((c : Thread nD τ), osem k)) ∗ toks c)) fun c _ => .rfl)
  isplitr
  · unfold records
    isplitr; · iexact Hinv
    iexact Hr
  iapply bigSep_pair; isplitl [Hc]; · iexact Hc
  iapply bigSep_pair; isplitl [Hat]; · iexact Hat
  iapply bigSep_pair; isplitl [Hopen]; · iexact Hopen
  iexact Htok

end Cert.KernelIdeal.Flash
-- ==== Proof.Region.lean ====
module

public import proofs.«01_k».proof.Proof.Deal
public import proofs.«01_k».proof.Proof.Gen.KernelIdeal.Regions
public import proofs.«01_k».proof.Proof.Gen.KernelIdeal.Points
public import Idealize.ShloMosaic.Lib.Pipeline.FrameBody

/-! # The kernel call as one region

What the call finds in its arrays, what it leaves there, and the body's run as the pipeline asks for it. -/

@[expose] public section

noncomputable section

namespace Cert.KernelIdeal.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The contents -/

/-- Window `w`'s block of its array, as the call finds it. -/
abbrev blkRead (c : Dev nD) (W : Pipeline.Window sig grid0) : (W.xblock (grid0.coords t0_0)).Idx → Elt F W.elt :=
  (W.blk t0_0).view.read (Elt F) (V1 m c (Proc.devRef .tc W.arr.view.ref))

/-- The query on device `c`. -/
def qOf (c : Dev nD) : Vec F S8x1x8x64 .bf16 := blkRead m c (cfg0.win 0)
/-- The keys of device `c`'s head. -/
def kOf (c : Dev nD) : Vec F S8x1x64x512 .bf16 := blkRead m c (cfg0.win 1)
/-- The values of device `c`'s head. -/
def vOf (c : Dev nD) : Vec F S8x1x64x512 .bf16 := blkRead m c (cfg0.win 2)
/-- Every device's partial result. -/
def psOf (i : Dev nD) : Part F := partOf i (qOf m i) (kOf m i) (vOf m i)

/-- The two scratch buffers at anything. -/
def scratch (c : Dev nD) : sProp 𝕄 :=
  iprop((∃ f, ((c : Thread nD τ).loc cc0_scratch0) ↦{fullShare} f) ∗ ∃ f, ((c : Thread nD τ).loc cc0_scratch1) ↦{fullShare} f)

/-- What enters the body, and what it leaves. -/
def dat (c : Dev nD) : Dat τ (Elt F) Unit ℕ UU ℕ cfg0 c where
  A w := V1 m c (Proc.devRef .tc (cfg0.win w).arr.view.ref)
  after w _ := match w with
    | ⟨0, _⟩ => qOf m c
    | ⟨1, _⟩ => kOf m c
    | ⟨2, _⟩ => vOf m c
    | ⟨3, _⟩ => outOf (psOf m)
  Φ t := if t.val = 0 then iprop((∃ κ, rights (psOf m) κ c) ∗ scratch c ∗ ∃ r, prngReg c r) else iprop(atRest c ∗ scratch c ∗ ∃ r, prngReg c r)
  q _ := fullShare
  owed t := if t.val = 0 then O₀ c else 0

def pdats (p : Fin 1) (c : Dev nD) : Dat τ (Elt F) Unit ℕ UU ℕ (cfgs p) c :=
  match p with
  | ⟨0, _⟩ => dat m c

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed t0_0.succ = 0 := by
  show (if (t0_0.succ : Fin (cfg0.N + 1)).val = 0 then O₀ c else 0) = 0; exact if_neg (Nat.succ_ne_zero _)
theorem Phi_first (c : Dev nD) : (dat m c).Φ t0_0.castSucc = iprop((∃ κ, rights (psOf m) κ c) ∗ scratch c ∗ ∃ r, prngReg c r) := by
  dsimp only [dat]; exact if_pos rfl
theorem Phi_last (c : Dev nD) : (dat m c).Φ t0_0.succ = iprop(atRest c ∗ scratch c ∗ ∃ r, prngReg c r) := by
  dsimp only [dat]; exact if_neg (Nat.succ_ne_zero _)

/-- A fetched window's buffer holds the array's block when the body runs. -/
theorem before_q (c : Dev nD) (d : (cfg0.win 0).block.Idx → Elt F (cfg0.win 0).elt) : (dat m c).before 0 t0_0 d = qOf m c := by
  unfold Dat.before; rw [if_pos (fetch0_0 t0_0)]; rfl
theorem before_k (c : Dev nD) (d : (cfg0.win 1).block.Idx → Elt F (cfg0.win 1).elt) : (dat m c).before 1 t0_0 d = kOf m c := by
  unfold Dat.before; rw [if_pos (fetch0_1 t0_0)]; rfl
theorem before_v (c : Dev nD) (d : (cfg0.win 2).block.Idx → Elt F (cfg0.win 2).elt) : (dat m c).before 2 t0_0 d = vOf m c := by
  unfold Dat.before; rw [if_pos (fetch0_2 t0_0)]; rfl

theorem owesAt_intro (c : Dev nD) (t : Fin (cfg0.N + 1)) (O : CellTallies nD τ sig Unit) (h : (dat m c).owed t = O) :
    iprop(∃ W, owes (c : Thread nD τ) O W) ⊢ ((dat m c).owesAt () t : sProp 𝕄) := by
  unfold Dat.owesAt Pipeline.owesWithin Dat.bound
  rw [h]
  iintro ⟨%W, HO⟩
  iexists W
  isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W
  iexact HO

/-- The body as the pipeline calls it. -/
theorem bodyAt_eq : (bodyAt0 t0_0 : Kern F PUnit)
    = bodyProg (win0_0.stage (cfg0.slots t0_0 0)) (win0_1.stage (cfg0.slots t0_0 1)) (win0_2.stage (cfg0.slots t0_0 2)) (win0_3.stage (cfg0.slots t0_0 3)) :=
  body_eq _ _ _ _ _ _ _ _ _ _

/-- The pipeline's demand on the body: from the staged operands to the staged result. -/
theorem body_ok (c : Dev nD) : BodyObligation (dat m c) (defs₀ (F := F)) 𝒱₀ () Set.univ := fun t => by
  obtain rfl := fin_N0 t
  rw [bigSep_W0, bigSep_W0]
  show _ ⊢ wp frame (wpE (defs₀ (F := F)) 𝒱₀ (c : Thread nD τ) none) Set.univ (bodyAt0 t0_0) _
  rw [Phi_first, Phi_last, bodyAt_eq]
  have hrun := fun (κ : GSem nD τ sig → ℕ) Q => body_run (psOf m) κ c Q (win0_0.stage (cfg0.slots t0_0 0)) (win0_1.stage (cfg0.slots t0_0 1)) (win0_2.stage (cfg0.slots t0_0 2))
    (win0_3.stage (cfg0.slots t0_0 3)) (qOf m c) (kOf m c) (vOf m c) rfl
  iintro ⟨⟨⟨%κ, HR⟩, Hs, Hp⟩, HO, ⟨%d0, H0⟩, ⟨%d1, H1⟩, ⟨%d2, H2⟩, ⟨%d3, H3⟩⟩
  ihave H0 := (Entails.of_eq (congrArg (fun X => (owns (c : Thread nD τ) (win0_0.stage (cfg0.slots t0_0 0)) fullShare X : sProp 𝕄)) (before_q m c d0))) $$ H0
  ihave H1 := (Entails.of_eq (congrArg (fun X => (owns (c : Thread nD τ) (win0_1.stage (cfg0.slots t0_0 1)) fullShare X : sProp 𝕄)) (before_k m c d1))) $$ H1
  ihave H2 := (Entails.of_eq (congrArg (fun X => (owns (c : Thread nD τ) (win0_2.stage (cfg0.slots t0_0 2)) fullShare X : sProp 𝕄)) (before_v m c d2))) $$ H2
  ihave H3 := (show (owns (c : Thread nD τ) (win0_3.stage (cfg0.slots t0_0 3)) fullShare ((dat m c).before 3 t0_0 d3) : sProp 𝕄)
    ⊢ ownsSat (c : Thread nD τ) (win0_3.stage (cfg0.slots t0_0 3)) fullShare (fun _ => True) from by
      rw [owns_eq_ownsSat]; exact ownsSat_mono _ _ _ fun _ _ => trivial) $$ H3
  ihave HO := (owesAt_elim m c _ (O₀ c) (owed_first m c)) $$ HO
  unfold scratch
  icases Hs with ⟨Hs0, Hs1⟩
  iapply (hrun κ _) $$ [HR H0 H1 H2 H3 HO Hs0 Hs1]
  · isplitl [HR]; · iexact HR
    isplitr [HO]; swap; · iexact HO
    unfold mem
    isplitl [H0]; · iexact H0
    isplitl [H1]; · iexact H1
    isplitl [H2]; · iexact H2
    isplitl [H3]; · iexact H3
    isplitl [Hs0]; · iexact Hs0
    iexact Hs1
  unfold mem
  iintro ⟨Hr, ⟨H0, H1, H2, H3, Hs0, Hs1⟩, HO⟩
  isplitl [Hr Hs0 Hs1 Hp]
  · isplitl [Hr]; · iexact Hr
    isplitl [Hs0 Hs1]
    · isplitl [Hs0]; · iexact Hs0
      iexact Hs1
    iexact Hp
  isplitl [HO]
  · iapply (owesAt_intro m c _ 0 (owed_last m c)); iexact HO
  isplitl [H0]; · iexact H0
  isplitl [H1]; · iexact H1
  isplitl [H2]; · iexact H2
  iapply (show (ownsSat (c : Thread nD τ) (win0_3.stage (cfg0.slots t0_0 3)) fullShare (· = outOf (psOf m)) : sProp 𝕄)
    ⊢ owns (c : Thread nD τ) (win0_3.stage (cfg0.slots t0_0 3)) fullShare (outOf (psOf m)) from by
      rw [owns_eq_ownsSat]) $$ H3

end Cert.KernelIdeal.Flash
-- ==== Proof.Run.lean ====
module

public import proofs.«01_k».proof.Proof.Region
public import Idealize.ShloMosaic.Lib.Pipeline.RegionTalk

/-! # The run of the whole program

The kernel call as the one region of the program, the launch that funds it, and what every execution ends with. -/

@[expose] public section

noncomputable section

namespace Cert.KernelIdeal.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves
open Idealize.ShloMosaic.Pipeline (Dat Cfg Window BodyObligation)
open Idealize.ShloMosaic.Smoke (bigSep_pair bigSep_unpair)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What the call leaves -/

/-- What the kernel call leaves in a buffer: the merged results in its result, everything else as it was. -/
def outs : Outs (F := F) := fun _ r c =>
  if h : r = main_v21 then h ▸ (dat m c).arrAt 3 cfg0.N else V1 m c (Proc.devRef .tc r)

theorem outs_result (c : Dev nD) : outs m 2 main_v21 c = (dat m c).arrAt 3 cfg0.N := dif_pos rfl

theorem V2_result (c : Dev nD) : V2 m (outs m) c main_v21 = (dat m c).arrAt 3 cfg0.N :=
  (Function.update_self _ _ _).trans (outs_result m c)

/-- Every window's array ends, and begins, as the thread states say. -/
theorem arr_first (c : Dev nD) : ∀ w, (pdats m 0 c).arrAt w 0 = V1 m c (Proc.devRef .tc (Pipeline.arrRef (cfgs 0).spec w)) := fun _ => rfl

theorem arr_last (c : Dev nD) : ∀ w, (pdats m 0 c).arrAt w (cfgs 0).N = V2 m (outs m) c (Proc.devRef .tc (Pipeline.arrRef (cfgs 0).spec w)) := fun w =>
  match w with
  | ⟨0, _⟩ => ((dat m c).arrAt_in 0 rfl _).trans (V2_of m (outs m) c main_arg0 (by decide)).symm
  | ⟨1, _⟩ => ((dat m c).arrAt_in 1 rfl _).trans (V2_of m (outs m) c main_v16 (by decide)).symm
  | ⟨2, _⟩ => ((dat m c).arrAt_in 2 rfl _).trans (V2_of m (outs m) c main_v20 (by decide)).symm
  | ⟨3, _⟩ => (V2_result m c).symm

theorem share_full (c : Dev nD) (w : Fin (cfgs 0).W) : (pdats m 0 c).share w = fullShare := by
  show (if _ then _ else _) = _
  exact ite_self _

/-! ## The call as a region -/

/-- What the launch keeps for the call. -/
def Tk (c : Dev nD) : sProp 𝕄 := iprop(∃ κ, start (psOf m) κ c)
/-- What enters it. -/
def Xk (c : Dev nD) : sProp 𝕄 := iprop(∃ κ, rights (psOf m) κ c)
/-- What it leaves: the barrier's counter at zero. -/
def Yk (c : Dev nD) : sProp 𝕄 := semVal (barCell c) 0

theorem region_open (c : Dev nD) : iprop(Tk m c ∗ Pipeline.ownSems0 osem c ∗ levAts L lv) ⊢ (|={Set.univ}=> Xk m c : sProp 𝕄) := by
  unfold Tk Xk Pipeline.ownSems0
  iintro ⟨⟨%κ, Hs⟩, Hz, HL⟩
  imod (enter (psOf m) κ c) $$ [Hs Hz HL] with H
  · isplitl [Hs]; · iexact Hs
    isplitl [Hz]; · iexact Hz
    iexact HL
  imodintro
  iexists κ; iexact H

/-- The buffers outside the windows. -/
abbrev rest : Finset (DevRef τ sig) := Pipeline.ucRefs τ sig \ Pipeline.arrRefs (τ := τ) spec0

theorem region_in (c : Dev nD) :
    iprop(Pipeline.scopedRest spec0 c ∗ (∃ r, prngReg c r) ∗ StableHlo.held (c.tc : Thread nD τ) ∅ (V1 m c) ∗ Xk m c) ⊢ (dat m c).Φ t0_0.castSucc := by
  rw [Phi_first, scopedRest0_eq]
  unfold Xk scratch
  iintro ⟨Hs, Hp, -, HX⟩
  isplitl [HX]; · iexact HX
  isplitl [Hs]; · iexact Hs
  iexact Hp

theorem region_out (c : Dev nD) : (dat m c).Φ t0_0.succ
    ⊢ iprop(Pipeline.scopedRest spec0 c ∗ (∃ r, prngReg c r) ∗ StableHlo.held (c.tc : Thread nD τ) ∅ (V2 m (outs m) c) ∗ Pipeline.ownSems0 osem c ∗ Yk c) := by
  rw [Phi_last, scopedRest0_eq, atRest_eq]
  unfold Yk scratch Pipeline.ownSems0 StableHlo.held
  rw [BI.bigSep_empty]
  iintro ⟨⟨Hb, Hz⟩, Hs, Hp⟩
  isplitl [Hs]; · iexact Hs
  isplitl [Hp]; · iexact Hp
  isplitr; · iempintro
  isplitl [Hz]; · iexact Hz
  iexact Hb

/-- Every due of the call sits at a level above the staging's. -/
theorem due_above (c : Dev nD) (t : Fin (cfg0.N + 1)) (g : GSem nD τ sig) (i : Unit) (h : 0 < (dat m c).owed t g i) : i ∈ L g ∧ 0 < lv g i := by
  have e : (dat m c).owed t = if t.val = 0 then O₀ c else 0 := rfl
  rw [e] at h
  split at h
  · rcases O₀_pos h with ⟨j, rfl⟩ | ⟨j, rfl⟩
    · exact ⟨by rw [L_tc]; exact Finset.mem_singleton_self _, by rw [lv_recv]; decide⟩
    · exact ⟨by rw [L_tc]; exact Finset.mem_singleton_self _, by rw [lv_bar]; decide⟩
  · exact absurd h (Nat.lt_irrefl 0)

theorem stage_low (c : Dev nD) : ∀ (w : Fin cfg0.W) (s : Fin (cfg0.win w).nbuf), lv ((c : Thread nD τ), .dma ((cfg0.win w).sem s)) () ≤ 0 := by
  intro w s
  unfold lv
  rw [if_neg (dma_ne_bar _), if_neg]
  rintro ⟨i, e⟩
  exact absurd (SemLoc.dma.inj e) ((by decide +kernel : ∀ (w : Fin cfg0.W) (s : Fin (cfg0.win w).nbuf) (i : Dev nD), (cfg0.win w).sem s ≠ recvSem i) w s i)

set_option backward.isDefEq.respectTransparency.types false in
/-- The kernel call as a region of the program. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    ∅ rest (Finset.empty_subset _) launch0.toP rfl (fun c => (body_ok m c).loose)
    (fun _ => 0) O₀ (fun c => (owed_first m c).trans (zero_add _).symm) (owed_last m) (fun _ => rfl) (share_full m)
    (V1 m) (V2 m (outs m))
    (fun c b hb => Function.update_of_ne (fun e => (Finset.mem_sdiff.mp (Finset.mem_sdiff.mp hb).1).2 (by rw [e]; decide)) _ _)
    (Tk m) Yk (Xk m) Yk (region_open m) (region_in m) (region_out m)
    (fun c => by iintro H; imodintro; iexact H)
    (fun _ => 0)
    ⟨fun c w s => by rw [L_tc]; exact Finset.mem_singleton_self _, fun c w s => stage_low c w s, fun c t g i h => due_above m c t g i h⟩
    (fun _ => iprop(emp))
    (arr_first m) (arr_last m)

/-- What rides beside the buffers before the call, and after it. -/
def E : Fin 2 → Dev nD → sProp 𝕄 := fun
  | ⟨0, _⟩ => fun c => iprop(Tk m c ∗ (∃ r, prngReg c r) ∗ ∃ W, owes (c : Thread nD τ) (O₀ c) W)
  | ⟨1, _⟩ => fun c => iprop(semVal (barCell c) 0 ∗ ∃ W, owes (c : Thread nD τ) (0 : CellTallies nD τ sig Unit) W)

theorem arrs_sub : Pipeline.arrRefs (τ := τ) spec0 ⊆ Pipeline.ucRefs τ sig := by decide

theorem region_pre (c : Dev nD) : iprop(StableHlo.held (c : Thread nD τ) (Pipeline.ucRefs τ sig) (V1 m c) ∗ E m 0 c) ⊢ (region m).pre c := by
  show iprop(StableHlo.held (c : Thread nD τ) (Pipeline.ucRefs τ sig) (V1 m c) ∗ Tk m c ∗ (∃ r, prngReg c r) ∗ ∃ W, owes (c : Thread nD τ) (O₀ c) W)
    ⊢ iprop(StableHlo.held (c.tc : Thread nD τ) (Pipeline.arrRefs (τ := τ) spec0) (V1 m c) ∗ (∃ r, prngReg c r)
      ∗ (StableHlo.held (c.tc : Thread nD τ) rest (V1 m c) ∗ emp) ∗ Tk m c ∗ ∃ Wd, owes (c : Thread nD τ) (0 + O₀ c) Wd)
  rw [StableHlo.held_sub_split (c.tc : Thread nD τ) arrs_sub (V1 m c), zero_add]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem region_post (c : Dev nD) : (region m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
      ∗ (StableHlo.held (c.tc : Thread nD τ) rest (V2 m (outs m) c) ∗ emp) ∗ Yk c ∗ ∃ Wd, owes (c : Thread nD τ) (0 : CellTallies nD τ sig Unit) Wd)
    ⊢ iprop(StableHlo.held (c : Thread nD τ) (Pipeline.ucRefs τ sig) (V2 m (outs m) c) ∗ semVal (barCell c) 0 ∗ ∃ W, owes (c : Thread nD τ) (0 : CellTallies nD τ sig Unit) W)
  rw [StableHlo.held_sub_split (c.tc : Thread nD τ) arrs_sub (V2 m (outs m) c)]
  unfold Yk
  iintro ⟨Ha, -, ⟨Hr, -⟩, Hb, HO⟩
  isplitl [Ha Hr]
  · isplitl [Ha]; · iexact Ha
    iexact Hr
  isplitl [Hb]; · iexact Hb
  iexact HO

/-! ## The launch -/

/-- The launch's ghost element: the staging's and the exchange's. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- A resource that waits on device 0 until it is dealt. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

/-- The exchange's launch element. -/
def G : Dev nD → sProp 𝕄 := onFirst (BI.own (ER (launchOf barCells scCells talkToks)))

theorem unscoped_sems (c : Dev nD) : (unscopedSems0 c : sProp 𝕄) = semVal (barCell c) 0 := by
  unfold unscopedSems0
  rw [show (Finset.univ.filter fun sm : SemLoc sig => ¬ sm.isScoped .tc) = {SemLoc.reg barSem} from by decide, BI.bigSep_singleton]

theorem unscoped_eq : ∀ sm : SemLoc sig, sm.isScoped .tc = false → sm = .reg barSem := by decide

variable (ρ : Dev nD → PrngReg)

/-- The launch makes every device's first thread state. -/
theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ E m 0 c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((StableHlo.held (c : Thread nD τ) (Pipeline.ucRefs τ sig) (V0 m c) ∗ owes (c : Thread nD τ) (O₀ c) ∅ ∗ ∃ r, prngReg c r)
          ∗ (semVal (barCell c) 0 ∗ Pipeline.launchCred O₀ c) ∗ G c) : sProp 𝕄) := by
    rw [← Pipeline.unscopedBufs_held (Ix := Unit) (Name := ℕ) (U := UU) (Lvl := ℕ) c (V0 m c), unscoped_sems]
    iintro ⟨Hh, Hb, HO, Hc, Hp, HG⟩
    isplitl [Hh HO Hp]
    · isplitl [Hh]; · iexact Hh
      isplitl [HO]; · iexact HO
      iexists (ρ c); iexact Hp
    isplitl [Hb Hc]
    · isplitl [Hb]; · iexact Hb
      iexact Hc
    iexact HG
  have hend (c : Dev nD) : iprop((StableHlo.held (c : Thread nD τ) (Pipeline.ucRefs τ sig) (V0 m c) ∗ owes (c : Thread nD τ) (O₀ c) ∅ ∗ ∃ r, prngReg c r) ∗ Tk m c)
      ⊢ (iprop(StableHlo.held (c : Thread nD τ) (Pipeline.ucRefs τ sig) (V0 m c) ∗ E m 0 c) : sProp 𝕄) := by
    show _ ⊢ iprop(StableHlo.held (c : Thread nD τ) (Pipeline.ucRefs τ sig) (V0 m c) ∗ Tk m c ∗ (∃ r, prngReg c r) ∗ ∃ W, owes (c : Thread nD τ) (O₀ c) W)
    iintro ⟨⟨Hh, HO, Hp⟩, HT⟩
    isplitl [Hh]; · iexact Hh
    isplitl [HT]; · iexact HT
    isplitl [Hp]; · iexact Hp
    iexists ∅; iexact HO
  have hone (κ : GSem nD τ sig → ℕ) (c : Dev nD) : (start (psOf m) κ c : sProp 𝕄) ⊢ (iprop(∃ κ, start (psOf m) κ c) : sProp 𝕄) := by
    iintro H; iexists κ; iexact H
  have hT (κ : GSem nD τ sig → ℕ) : (bigSep Finset.univ fun c : Dev nD => (start (psOf m) κ c : sProp 𝕄)) ⊢ bigSep Finset.univ (Tk m) :=
    bigSep_mono fun c _ => hone κ c
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop((StableHlo.held (c : Thread nD τ) (Pipeline.ucRefs τ sig) (V0 m c) ∗ owes (c : Thread nD τ) (O₀ c) ∅ ∗ ∃ r, prngReg c r)
          ∗ (semVal (barCell c) 0 ∗ Pipeline.launchCred O₀ c) ∗ G c) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own (ER (launchOf barCells scCells talkToks)) from
    Entails.of_eq (bigSep_onFirst (F := F) (BI.own (ER (launchOf barCells scCells talkToks))))) $$ HG
  imod (deal (psOf m)) $$ [Hv Hu] with ⟨%κ, HS⟩
  · isplitl [Hv]; · iexact Hv
    iexact Hu
  ihave HT := (hT κ) $$ HS
  imodintro
  iapply (show (bigSep Finset.univ fun c : Dev nD => iprop((StableHlo.held (c : Thread nD τ) (Pipeline.ucRefs τ sig) (V0 m c) ∗ owes (c : Thread nD τ) (O₀ c) ∅ ∗ ∃ r, prngReg c r) ∗ Tk m c))
      ⊢ (bigSep Finset.univ fun c : Dev nD => iprop(StableHlo.held (c : Thread nD τ) (Pipeline.ucRefs τ sig) (V0 m c) ∗ E m 0 c) : sProp 𝕄) from bigSep_mono fun c _ => hend c)
  iapply bigSep_pair
  isplitl [HB]; · iexact HB
  iexact HT

/-! ## The run -/

set_option backward.isDefEq.respectTransparency.types false in
/-- From any memory with every counter at zero, every weakly fair execution on the sixteen devices ends; then on every
    device the arguments are as launched, the result array holds what the kernel call leaves in it, and every counter
    is at zero. -/
theorem run_main : θ_run defs (onTc (τ := τ) (main (F := F))) ⟨m, fun _ => 0, ρ⟩
    (fun r => (∀ c : Dev nD,
        (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.mem ((c.tc : Thread nD τ).loc main_v21) = (dat m c).arrAt 3 cfg0.N)
      ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (region m))
    (fun c Q => by
      rewrite [main_chain c, Pipeline.Seg.run_eq_chain,
        show (segs m 𝒱₀ L lv (E m) () (pdats m) (region m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne
    (G := G) (u₀ := u₀ (F := F))
    (hu₀ := by
      unfold u₀ G
      iintro Hu
      ihave H := (ownU_pair _ _) $$ Hu
      icases H with ⟨HP, HX⟩
      imodintro
      isplitl [HP]; · iexact HP
      rw [bigSep_onFirst]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V2 m (outs m) c) ∗ semVal (barCell c) 0))
    (hch := fun c => ⟨.rfl, region_pre m c, (region_post m c).trans (show
      iprop(StableHlo.held (c : Thread nD τ) (Pipeline.ucRefs τ sig) (V2 m (outs m) c) ∗ semVal (barCell c) 0 ∗ ∃ W, owes (c : Thread nD τ) (0 : CellTallies nD τ sig Unit) W)
      ⊢ (iprop((StableHlo.held (c : Thread nD τ) (Pipeline.ucRefs τ sig) (V2 m (outs m) c) ∗ semVal (barCell c) 0) ∗ ∃ W, owes (c : Thread nD τ) (0 : CellTallies nD τ sig Unit) W) : sProp 𝕄) from by
      iintro ⟨Hh, Hb, HO⟩
      isplitr [HO]
      · isplitl [Hh]; · iexact Hh
        iexact Hb
      iexact HO)⟩)
    (hinit := launch m ρ)
    (QY := fun c s => ((s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2))
        ∧ s.mem ((c.tc : Thread nD τ).loc main_v21) = (dat m c).arrAt 3 cfg0.N) ∧ s.sem (barCell c) = 0)
    (hfin := fun c s' => ?_)
    (hQ := fun s h hs => ⟨fun c => (h c).1, sem_eq_zero hs fun c sm hsm => by
      obtain rfl := unscoped_eq sm hsm
      exact (h c).2⟩)
  unfold StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    have hm := fun (r : Ref sig .tc) (hr : _) => h (Proc.devRef .tc r) (Finset.mem_filter.mpr ⟨StableHlo.devRef_mem_tcRefs r, hr⟩)
    exact ⟨⟨⟨(hm main_arg0 (by decide)).trans (V2_main_arg0 m (outs m) c), (hm main_arg1 (by decide)).trans (V2_main_arg1 m (outs m) c),
      (hm main_arg2 (by decide)).trans (V2_main_arg2 m (outs m) c)⟩, (hm main_v21 (by decide)).trans (V2_result m c)⟩, by simpa using hb⟩
  · iexact HSI

end Cert.KernelIdeal.Flash
-- ==== Proof.Blocks.lean ====
module

public import proofs.«01_k».proof.Proof.Region
public import Idealize.ShloMosaic.Lib.StableHlo.RunClose
public import Idealize.ShloMosaic.Lib.ValueIdxCoords
public import Idealize.ShloMosaic.Lib.Pipeline.ValueKit

/-! # What the kernel's operands and its result array hold

The query is the argument itself. The keys and the values of a device are its block of the arguments, the
head the device works on taken out and the axes reordered. The result array ends holding what the body left. -/

@[expose] public section

set_option maxRecDepth 16384

noncomputable section

namespace Cert.KernelIdeal.Flash

open Idealize.ShloMosaic Idealize.ShloMosaic.TcCoe Idealize.SL.Sem
open Cert.KernelIdeal Cert.KernelIdeal.Gen

variable (m : (ℓ : Loc nD τ sig) → Buf (Elt Ideal) ℓ)

/-! ## The windows' blocks are whole arrays -/

theorem index_zero : win0_0.index t0_0 = ![0, 0, 0, 0] ∧ win0_1.index t0_0 = ![0, 0, 0, 0] ∧ win0_2.index t0_0 = ![0, 0, 0, 0] := by
  decide +kernel

/-- The result array ends holding what the body left in its buffer. -/
theorem arrAt_out (c : Dev nD) : (dat m c).arrAt 3 cfg0.N = outOf (psOf m) := by
  refine (dat m c).arrAt_eq_of_after_last 3 t0_0 (by decide +kernel) _ fun j => ?_
  blk_simp
  rfl

theorem qOf_entry (c : Dev nD) : qOf m c = V1 m c (Proc.devRef .tc main_arg0) := by
  funext y
  show V1 m c (Proc.devRef .tc main_arg0) (((cfg0.win 0).blk t0_0).view.emb y) = _
  blk_ext [index_zero]

theorem kOf_entry (c : Dev nD) : kOf m c = V1 m c (Proc.devRef .tc main_v16) := by
  funext y
  show V1 m c (Proc.devRef .tc main_v16) (((cfg0.win 1).blk t0_0).view.emb y) = _
  congr 1
  blk_ext [index_zero]

theorem vOf_entry (c : Dev nD) : vOf m c = V1 m c (Proc.devRef .tc main_v20) := by
  funext y
  show V1 m c (Proc.devRef .tc main_v20) (((cfg0.win 2).blk t0_0).view.emb y) = _
  congr 1
  blk_ext [index_zero]

/-! ## The host's slices -/

/-- The head device `c` takes, as the host computes it. -/
def hostHead (c : Dev nD) : IVec S_ 32 :=
  addi (muli (Host.remui (Host.divui (constantI S_ 32 (Dev.word c)) (constantI S_ 32 4#32)) (constantI S_ 32 2#32)) (constantI S_ 32 4#32))
    (Host.remui (Host.divui (constantI S_ 32 (Dev.word c)) (constantI S_ 32 1#32)) (constantI S_ 32 4#32))
/-- The same, eight added to it if it is negative. -/
def hostPick (c : Dev nD) : IVec S_ 32 :=
  select (cmpi .slt (hostHead c) (constantI S_ 32 0#32)) (addi (hostHead c) (constantI S_ 32 8#32)) (hostHead c)

/-- It is the device's number modulo eight. -/
theorem pick_val : ∀ c : Dev nD, (hostPick c (Shape.Idx.first h_S_)).toInt = (c.val % 8 : ℕ) := by
  decide +kernel

/-- The slice the host takes of the keys, and of the values. -/
def sliced (c : Dev nD) (X : FVec Ideal S8x512x8x64 .bf16) : FVec Ideal S8x1x64x512 .bf16 :=
  Host.dynamicSlice S8x1x64x512 (transpose S8x8x64x512 [0, 2, 3, 1] X transposes_S8x512x8x64_S8x8x64x512_0_2_3_1)
    (fun k => (((![constantI S_ 32 0#32, hostPick c, constantI S_ 32 0#32, constantI S_ 32 0#32] : Fin 4 → IVec S_ 32) k) (Shape.Idx.first h_S_)).toInt)
    sliceFits_S8x8x64x512_S8x1x64x512

theorem entry_q (c : Dev nD) : V1 m c (Proc.devRef .tc main_arg0) = m ((c.tc : Thread nD τ).loc main_arg0) := by
  unfold V1
  after_results

theorem entry_k (c : Dev nD) : V1 m c (Proc.devRef .tc main_v16) = sliced c (m ((c.tc : Thread nD τ).loc main_arg1)) := by
  unfold V1
  after_results_simp_entrywise
  rfl

theorem entry_v (c : Dev nD) : V1 m c (Proc.devRef .tc main_v20) = sliced c (m ((c.tc : Thread nD τ).loc main_arg2)) := by
  unfold V1
  after_results_simp_entrywise
  rfl

/-- The start of the slice: the device's head on the axis of heads, zero on the others. -/
theorem start_at (c : Dev nD) (j : Fin 4) :
    Host.clampedStart S8x8x64x512 S8x1x64x512 rfl (fun k => (![constantI S_ 32 0#32, hostPick c, constantI S_ 32 0#32, constantI S_ 32 0#32] k
      (Shape.Idx.first h_S_)).toInt) j = if j = 1 then c.val % 8 else 0 := by
  have hp := pick_val c
  have h8 : c.val % 8 < 8 := Nat.mod_lt _ (by norm_num)
  match j with
  | 0 => show (min (max _ 0) (0 : ℤ)).toNat = 0; omega
  | 1 =>
    show (min (max (hostPick c (Shape.Idx.first h_S_)).toInt 0) (7 : ℤ)).toNat = c.val % 8
    omega
  | 2 => show (min (max _ 0) (0 : ℤ)).toNat = 0; omega
  | 3 => show (min (max _ 0) (0 : ℤ)).toNat = 0; omega

/-- The head device `c` works on. -/
def headOf (c : Dev nD) : Fin 8 := ⟨c.val % 8, Nat.mod_lt _ (by norm_num)⟩

/-- The slice at an index: the device's head, the axes reordered. -/
theorem sliced_at (c : Dev nD) (X : FVec Ideal S8x512x8x64 .bf16) (b : Fin 8) (d : Fin 64) (k : Fin 512) :
    sliced c X (ix4 b 0 d k) = X (ix4 b k (headOf c) d) := by
  pointwise [sliced]
  simp only [start_at]
  simp [headOf]

/-! ## The operands -/

/-- The query a device reads is its argument. -/
theorem qOf_eq (c : Dev nD) : qOf m c = m ((c.tc : Thread nD τ).loc main_arg0) := (qOf_entry m c).trans (entry_q m c)
/-- The keys a device reads are its head's in its block. -/
theorem kOf_eq (c : Dev nD) : kOf m c = sliced c (m ((c.tc : Thread nD τ).loc main_arg1)) := (kOf_entry m c).trans (entry_k m c)
/-- The values a device reads are its head's in its block. -/
theorem vOf_eq (c : Dev nD) : vOf m c = sliced c (m ((c.tc : Thread nD τ).loc main_arg2)) := (vOf_entry m c).trans (entry_v m c)

end Cert.KernelIdeal.Flash
-- ==== Proof.Softmax.lean ====
module

public import Idealize.ShloMosaic.PureOps.Ideal
public import Mathlib.Data.EReal.Inv
public import Mathlib.Algebra.BigOperators.Fin

/-! # Softmax in two halves

Extended-real mathematics, free of any program. A row of scores and a row of values give the attention
`attend`: the values weighted by the scores' softmax. A partial result of half the scores is a triple
(`wsum`, `top`, `total`); two partial results are put together by `join`. With real scores, the partial
results of the two halves, put together, are the attention over the whole row, whatever the values. -/

@[expose] public section

noncomputable section

namespace Cert.Softmax

open Idealize.ShloMosaic

variable {ι : Type} [Fintype ι]

/-- The largest score. -/
def top (s : ι → EReal) : EReal := Finset.univ.fold max ⊥ s
/-- The weight of entry `k`, before it is divided by the sum of all weights. -/
def weight (s : ι → EReal) (k : ι) : EReal := Ideal.exp (s k - top s)
/-- The sum of the weights. -/
def total (s : ι → EReal) : EReal := ∑ k, weight s k
/-- The values' sum, weighted. -/
def wsum (s v : ι → EReal) : EReal := ∑ k, weight s k * v k
/-- The attention of one row: the values weighted by the softmax of the scores. -/
def attend (s v : ι → EReal) : EReal := ∑ k, v k * Ideal.div (weight s k) (total s)
/-- Two partial results put together. -/
def join (o m l o' m' l' : EReal) : EReal :=
  Ideal.div (o * Ideal.exp (m - max m m') + o' * Ideal.exp (m' - max m m'))
    (l * Ideal.exp (m - max m m') + l' * Ideal.exp (m' - max m m'))

/-! ## Sums of extended reals times a real -/

/-- A sum of extended reals times a nonnegative real is the sum of the products. -/
theorem sum_mul_coe (f : ι → EReal) {x : ℝ} (hx : 0 ≤ x) : (∑ k, f k) * (x : EReal) = ∑ k, f k * (x : EReal) := by
  classical
  have h : ∀ t : Finset ι, (∑ k ∈ t, f k) * (x : EReal) = ∑ k ∈ t, f k * (x : EReal) := fun t => by
    induction t using Finset.induction_on with
    | empty => simp
    | insert a t ha ih =>
      rw [Finset.sum_insert ha, Finset.sum_insert ha, ← ih]
      exact EReal.right_distrib_of_nonneg_of_ne_top (EReal.coe_nonneg.mpr hx) (EReal.coe_ne_top x) _ _
  exact h Finset.univ

/-- A sum of reals, read as extended reals. -/
theorem coe_sum (f : ι → ℝ) : ((∑ k, f k : ℝ) : EReal) = ∑ k, (f k : EReal) := by
  classical
  have h : ∀ t : Finset ι, ((∑ k ∈ t, f k : ℝ) : EReal) = ∑ k ∈ t, (f k : EReal) := fun t => by
    induction t using Finset.induction_on with
    | empty => simp
    | insert a t ha ih => rw [Finset.sum_insert ha, Finset.sum_insert ha, ← ih, EReal.coe_add]
  exact h Finset.univ

/-! ## The largest score -/

theorem top_eq_sup (s : ι → EReal) : top s = Finset.univ.sup s := rfl

/-- The largest of real scores is real. -/
theorem top_coe [Nonempty ι] (s : ι → ℝ) : ∃ t : ℝ, top (fun k => (s k : EReal)) = t := by
  obtain ⟨k, -, hk⟩ := Finset.exists_max_image Finset.univ s Finset.univ_nonempty
  refine ⟨s k, le_antisymm ?_ ?_⟩
  · rw [top_eq_sup]; exact Finset.sup_le fun j _ => EReal.coe_le_coe_iff.mpr (hk j (Finset.mem_univ j))
  · rw [top_eq_sup]; exact Finset.le_sup (f := fun k => (s k : EReal)) (Finset.mem_univ k)

/-- The largest score of a row is the larger of its two halves' largest scores. -/
theorem top_halves {n : ℕ} (s : Fin (n + n) → EReal) :
    top s = max (top fun k => s (Fin.castAdd n k)) (top fun k => s (Fin.natAdd n k)) := by
  simp only [top_eq_sup]
  refine le_antisymm (Finset.sup_le fun j _ => ?_) (max_le ?_ ?_)
  · induction j using Fin.addCases with
    | left k => exact le_max_of_le_left (Finset.le_sup (f := fun k => s (Fin.castAdd n k)) (Finset.mem_univ k))
    | right k => exact le_max_of_le_right (Finset.le_sup (f := fun k => s (Fin.natAdd n k)) (Finset.mem_univ k))
  · exact Finset.sup_le fun k _ => Finset.le_sup (Finset.mem_univ _)
  · exact Finset.sup_le fun k _ => Finset.le_sup (Finset.mem_univ _)

/-! ## The equation -/

theorem exp_coe (x : ℝ) : Ideal.exp (x : EReal) = (Real.exp x : EReal) := rfl

/-- Moving a real weight from one reference score to another. -/
theorem exp_shift (x y z : ℝ) : Ideal.exp ((x : EReal) - y) * Ideal.exp ((y : EReal) - z) = Ideal.exp ((x : EReal) - z) := by
  simp only [← EReal.coe_sub, exp_coe, ← EReal.coe_mul, ← Real.exp_add]
  congr 2; ring

/-- The weighted sum of one half, moved to another reference score. -/
theorem wsum_shift (s : ι → ℝ) (v : ι → EReal) (t z : ℝ) (ht : top (fun k => (s k : EReal)) = t) :
    wsum (fun k => (s k : EReal)) v * Ideal.exp ((t : EReal) - z) = ∑ k, Ideal.exp ((s k : EReal) - z) * v k := by
  unfold wsum weight
  rw [ht, ← EReal.coe_sub, exp_coe, sum_mul_coe _ (Real.exp_pos _).le]
  refine Finset.sum_congr rfl fun k _ => ?_
  rw [mul_right_comm, ← exp_coe, EReal.coe_sub, exp_shift]

/-- The sum of the weights of one half, moved to another reference score. -/
theorem total_shift (s : ι → ℝ) (t z : ℝ) (ht : top (fun k => (s k : EReal)) = t) :
    total (fun k => (s k : EReal)) * Ideal.exp ((t : EReal) - z) = ∑ k, Ideal.exp ((s k : EReal) - z) := by
  unfold total weight
  rw [ht, ← EReal.coe_sub, exp_coe, sum_mul_coe _ (Real.exp_pos _).le]
  refine Finset.sum_congr rfl fun k _ => ?_
  rw [← exp_coe, EReal.coe_sub, exp_shift]

/-- The attention of a row is the weighted sum divided by the sum of the weights. -/
theorem attend_eq [Nonempty ι] (s : ι → ℝ) (v : ι → EReal) :
    attend (fun k => (s k : EReal)) v = Ideal.div (wsum (fun k => (s k : EReal)) v) (total fun k => (s k : EReal)) := by
  obtain ⟨t, ht⟩ := top_coe s
  have hw : ∀ k, weight (fun k => (s k : EReal)) k = (Real.exp (s k - t) : EReal) := fun k => by
    unfold weight; rw [ht, ← EReal.coe_sub, exp_coe]
  have hT : total (fun k => (s k : EReal)) = ((∑ k, Real.exp (s k - t) : ℝ) : EReal) := by
    unfold total; rw [coe_sum]; exact Finset.sum_congr rfl fun k _ => hw k
  have hpos : (0 : ℝ) < ∑ k, Real.exp (s k - t) := Finset.sum_pos (fun k _ => Real.exp_pos _) Finset.univ_nonempty
  have hne : ((∑ k, Real.exp (s k - t) : ℝ) : EReal) ≠ 0 := fun h => hpos.ne' (EReal.coe_eq_zero.mp h)
  unfold attend wsum
  simp only [hT, Ideal.div, if_neg hne]
  rw [← EReal.coe_inv, sum_mul_coe _ (inv_nonneg.mpr hpos.le)]
  exact Finset.sum_congr rfl fun k _ => by rw [mul_comm (weight _ k) (v k), mul_assoc]

/-- The partial results of the two halves of a row of real scores, put together, are the row's attention. -/
theorem join_eq {n : ℕ} [NeZero n] (s : Fin (n + n) → ℝ) (v : Fin (n + n) → EReal) :
    join (wsum (fun k => (s (Fin.castAdd n k) : EReal)) fun k => v (Fin.castAdd n k)) (top fun k => (s (Fin.castAdd n k) : EReal))
        (total fun k => (s (Fin.castAdd n k) : EReal))
        (wsum (fun k => (s (Fin.natAdd n k) : EReal)) fun k => v (Fin.natAdd n k)) (top fun k => (s (Fin.natAdd n k) : EReal))
        (total fun k => (s (Fin.natAdd n k) : EReal))
      = attend (fun k => (s k : EReal)) v := by
  haveI : Nonempty (Fin n) := ⟨0⟩
  haveI : Nonempty (Fin (n + n)) := ⟨Fin.castAdd n 0⟩
  obtain ⟨t, ht⟩ := top_coe fun k => s (Fin.castAdd n k)
  obtain ⟨t', ht'⟩ := top_coe fun k => s (Fin.natAdd n k)
  obtain ⟨g, hg⟩ := top_coe s
  have hmax : max (t : EReal) (t' : EReal) = g := by
    rw [← ht, ← ht', ← hg]; exact (top_halves fun k => (s k : EReal)).symm
  rw [attend_eq]
  unfold join
  rw [ht, ht', hmax, wsum_shift _ _ _ g ht, wsum_shift _ _ _ g ht', total_shift _ _ g ht, total_shift _ _ g ht']
  unfold wsum total weight
  rw [hg, Fin.sum_univ_add, Fin.sum_univ_add]

end Cert.Softmax
-- ==== Proof.PartIdeal.lean ====
module

public import proofs.«01_k».proof.Proof.Blocks
public import proofs.«01_k».proof.Proof.Softmax

/-! # What one device computes

A device's partial result, entry by entry: the scores of its 512 keys against its head's query, their
largest, the sum of their exponentials and the values weighted by them. The kernel takes the head out of the
query, and the batch out of the keys and values, by products with arrays of zeros and ones; at the extended
reals each such sum is the one term whose factor is one. -/

@[expose] public section

set_option maxRecDepth 16384

noncomputable section

namespace Cert.KernelIdeal.Flash

open Idealize.ShloMosaic Idealize.ShloMosaic.TcCoe Idealize.SL.Sem
open Cert.KernelIdeal Cert.KernelIdeal.Gen

/-! ## Numbers below 512, as words -/

/-- The sign of a word: one, zero or minus one. -/
def signW (x : BitVec 32) : BitVec 32 :=
  IntOp.subi (BitVec.setWidth 32 (IntOp.cmpi CmpIPredicate.sgt x 0#32)) (BitVec.setWidth 32 (IntOp.cmpi CmpIPredicate.slt x 0#32))
/-- The sign of 64. -/
def sign64 : BitVec 32 := Scalar.subi (Scalar.extui (Scalar.cmpi CmpIPredicate.sgt 64#32 0#32)) (Scalar.extui (Scalar.cmpi CmpIPredicate.slt 64#32 0#32))
/-- A word over 64, rounded down. -/
def floorW (x : BitVec 32) : BitVec 32 :=
  Scalar.select (IntOp.andi (IntOp.cmpi CmpIPredicate.ne (signW x) sign64) (IntOp.cmpi CmpIPredicate.ne (IntOp.remsi ArithUnit.vector x 64#32) 0#32))
    (IntOp.subi (IntOp.divsi ArithUnit.vector x 64#32) 1#32) (IntOp.divsi ArithUnit.vector x 64#32)

theorem floorW_eq : ∀ j : Fin 512, floorW (BitVec.ofNat 32 j.val) = BitVec.ofNat 32 (j.val / 64) := by
  decide +kernel

theorem headWord_eq : ∀ d : Dev nD, headWord d = BitVec.ofNat 32 (headOf d).val := by
  decide +kernel

/-- Small numbers are equal exactly if their words are. -/
theorem cmp_eq : ∀ a b : Fin 64, IntOp.cmpi CmpIPredicate.eq (BitVec.ofNat 32 a.val) (BitVec.ofNat 32 b.val) = if a = b then 1#1 else 0#1 := by
  decide +kernel

/-- The divisor 64, as the kernel spells it. -/
abbrev div64 : BitVec 32 := Scalar.select (Scalar.cmpi CmpIPredicate.eq 64#32 0#32) 1#32 64#32
/-- A word modulo 64, the remainder's sign the divisor's. -/
def remW (x : BitVec 32) : BitVec 32 :=
  Scalar.select (IntOp.andi (IntOp.xori (IntOp.cmpi CmpIPredicate.slt (IntOp.remsi ArithUnit.vector x div64) 0#32) (Scalar.cmpi CmpIPredicate.slt div64 0#32))
      (IntOp.cmpi CmpIPredicate.ne (IntOp.remsi ArithUnit.vector x div64) 0#32))
    (IntOp.addi (IntOp.remsi ArithUnit.vector x div64) div64) (IntOp.remsi ArithUnit.vector x div64)

theorem remW_eq : ∀ j : Fin 512, remW (BitVec.ofNat 32 j.val) = BitVec.ofNat 32 (j.val % 64) := by
  decide +kernel

/-- A truth value, read as a float. -/
theorem float_of_bool (p : Prop) [Decidable p] :
    FloatOps.sitofp (F := Ideal) FTy.f32 (BitVec.setWidth 32 (if p then 1#1 else 0#1)) = if p then (1 : EReal) else 0 := by
  split_ifs
  · show (((BitVec.setWidth 32 1#1).toInt : ℝ) : EReal) = 1
    have : (BitVec.setWidth 32 1#1).toInt = 1 := by decide
    rw [this]; simp
  · show (((BitVec.setWidth 32 0#1).toInt : ℝ) : EReal) = 0
    have : (BitVec.setWidth 32 0#1).toInt = 0 := by decide
    rw [this]; simp

theorem and_bool (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-! ## The arrays of zeros and ones -/

/-- One where the column's block is the row, zero elsewhere. -/
theorem mask_at (b : Fin 8) (j : Fin 512) : (k0_pay1 : FVec Ideal S8x512 .f32) (ix2 b j) = if j.val / 64 = b.val then 1 else 0 := by
  pointwise [k0_pay1]
  show FloatOps.sitofp (F := Ideal) FTy.f32 (BitVec.setWidth 32 (IntOp.cmpi CmpIPredicate.eq (floorW (BitVec.ofNat 32 j.val)) (BitVec.ofNat 32 b.val))) = _
  rw [floorW_eq]
  have h := cmp_eq ⟨j.val / 64, by omega⟩ ⟨b.val, by omega⟩
  simp only [Fin.mk.injEq] at h
  rw [h]
  exact float_of_bool _

/-- The query with its two last axes run together. -/
theorem flat_at (q : Vec Ideal S8x1x8x64 .bf16) (b : Fin 8) (j : Fin 512) :
    k0_pay2 q (ix2 b j) = q (ix4 b 0 ⟨j.val / 64, by omega⟩ ⟨j.val % 64, by omega⟩) := by
  pointwise [k0_pay2]

/-- The kernel's comparison of row `i` with the columns of head `headOf d`. -/
theorem headSel_at (d : Dev nD) (i j : Fin 512) :
    k0_pay6 (headWord d) (iota .tc S512x512 32 [0] iota_S512x512_d0_w32) 64#32 k0_pay3 k0_pay4 k0_pay5 (ix2 i j)
      = if i.val / 64 = (headOf d).val then 1#1 else 0#1 := by
  pointwise [k0_pay6, k0_pay3, k0_pay4, k0_pay5]
  show IntOp.cmpi CmpIPredicate.eq (floorW (BitVec.ofNat 32 i.val)) (headWord d) = _
  rw [floorW_eq, headWord_eq]
  have h := cmp_eq ⟨i.val / 64, by omega⟩ ⟨(headOf d).val, by omega⟩
  simpa only [Fin.mk.injEq] using h

/-- The row's place in its block. -/
theorem rowRem_at (i j : Fin 512) :
    k0_pay7 (iota .tc S512x512 32 [0] iota_S512x512_d0_w32) (ix2 i j) = BitVec.ofNat 32 (i.val % 64) := by
  pointwise [k0_pay7]
  exact remW_eq i

/-- The selector's entry: one at row `i` and column `j` if row `i` is the device's head's, at column `j`'s place in its block. -/
theorem sel_at (d : Dev nD) (i j : Fin 512) :
    FloatOps.sitofp (F := Ideal) FTy.f32 (BitVec.setWidth 32
      (IntOp.andi (k0_pay6 (headWord d) (iota .tc S512x512 32 [0] iota_S512x512_d0_w32) 64#32 k0_pay3 k0_pay4 k0_pay5 (ix2 i j))
        (IntOp.cmpi CmpIPredicate.eq (k0_pay7 (iota .tc S512x512 32 [0] iota_S512x512_d0_w32) (ix2 i j)) (remW (BitVec.ofNat 32 j.val)))))
      = if i.val / 64 = (headOf d).val ∧ i.val % 64 = j.val % 64 then (1 : EReal) else 0 := by
  have h := cmp_eq ⟨i.val % 64, by omega⟩ ⟨j.val % 64, by omega⟩
  simp only [Fin.mk.injEq] at h
  rw [headSel_at, rowRem_at, remW_eq, h, and_bool]
  exact float_of_bool _

/-! ## Sums over blocks -/

/-- Place `e` of block `b`. -/
def cell (b : Fin 8) (e : Fin 64) : Fin 512 := ⟨b.val * 64 + e.val, by omega⟩

theorem sum_cells (f : Fin 512 → EReal) : ∑ x, f x = ∑ b : Fin 8, ∑ e : Fin 64, f (cell b e) := by
  rw [← Fintype.sum_prod_type' (f := fun b e => f (cell b e)), ← Equiv.sum_comp (finProdFinEquiv (m := 8) (n := 64))]
  refine Finset.sum_congr rfl fun x _ => congrArg f (Fin.ext ?_)
  show x.2.val + 64 * x.1.val = x.1.val * 64 + x.2.val
  omega

/-- The sum over the cells of one block. -/
theorem sum_block (b : Fin 8) (f : Fin 512 → EReal) : ∑ x : Fin 512, (if x.val / 64 = b.val then f x else 0) = ∑ e : Fin 64, f (cell b e) := by
  rw [sum_cells, Finset.sum_eq_single b]
  · refine Finset.sum_congr rfl fun e _ => if_pos ?_
    show (b.val * 64 + e.val) / 64 = b.val
    omega
  · intro b' _ hb
    refine Finset.sum_eq_zero fun e _ => if_neg ?_
    show ¬ (b'.val * 64 + e.val) / 64 = b.val
    have : b'.val ≠ b.val := fun h => hb (Fin.ext h)
    omega
  · exact fun h => absurd (Finset.mem_univ b) h

/-! ## The scores -/

/-- The scale of the scores. -/
def scale : EReal := Ideal.ofBits .f32 0x3E000000#32

/-- The score of key `j` of a device at batch `b`. -/
def score (d : Dev nD) (q : Vec Ideal S8x1x8x64 .bf16) (k : Vec Ideal S8x1x64x512 .bf16) (b : Fin 8) (j : Fin 512) : EReal :=
  (∑ e : Fin 64, q (ix4 b 0 (headOf d) e) * k (ix4 b 0 e j)) * scale

/-- The scores as the kernel computes them. -/
abbrev sPay (d : Dev nD) (q : Vec Ideal S8x1x8x64 .bf16) (k : Vec Ideal S8x1x64x512 .bf16) : FVec Ideal S8x512 .f32 :=
  k0_pay11 k0_pay1 (k0_pay2 q)
    (k0_pay6 (headWord d) (iota .tc S512x512 32 [0] iota_S512x512_d0_w32) 64#32 k0_pay3 k0_pay4 k0_pay5)
    (k0_pay7 (iota .tc S512x512 32 [0] iota_S512x512_d0_w32)) div64
    (k0_pay8 (iota .tc S512x512 32 [1] iota_S512x512_d1_w32)) (k0_pay9 (iota .tc S512x512 32 [1] iota_S512x512_d1_w32))
    (k0_pay10 (iota .tc S512x512 32 [1] iota_S512x512_d1_w32))
    (Scalar.cmpi .slt div64 0#32) k

/-- The query's product with the selector: the head's query, repeated in every block. -/
theorem query_at (d : Dev nD) (q : Vec Ideal S8x1x8x64 .bf16) (b : Fin 8) (x : Fin 512) :
    (∑ i : Fin 512, k0_pay2 q (ix2 b i) * (if i.val / 64 = (headOf d).val ∧ i.val % 64 = x.val % 64 then (1 : EReal) else 0))
      = q (ix4 b 0 (headOf d) ⟨x.val % 64, by omega⟩) := by
  rw [Finset.sum_eq_single (cell (headOf d) ⟨x.val % 64, by omega⟩)]
  · have h1 : (cell (headOf d) ⟨x.val % 64, by omega⟩).val / 64 = (headOf d).val := by
      show ((headOf d).val * 64 + x.val % 64) / 64 = _; omega
    have h2 : (cell (headOf d) ⟨x.val % 64, by omega⟩).val % 64 = x.val % 64 := by
      show ((headOf d).val * 64 + x.val % 64) % 64 = _; omega
    rw [if_pos ⟨h1, h2⟩, mul_one, flat_at]
    congr 1
    exact congrArg₂ (ix4 b 0) (Fin.ext h1) (Fin.ext h2)
  · intro i _ hi
    rw [if_neg, mul_zero]
    rintro ⟨h1, h2⟩
    refine hi (Fin.ext ?_)
    show i.val = (headOf d).val * 64 + x.val % 64
    omega
  · exact fun h => absurd (Finset.mem_univ _) h

theorem sPay_at (d : Dev nD) (q : Vec Ideal S8x1x8x64 .bf16) (k : Vec Ideal S8x1x64x512 .bf16) (b : Fin 8) (j : Fin 512) :
    sPay d q k (ix2 b j) = score d q k b j := by
  have e : sPay d q k (ix2 b j) = (∑ x : Fin 512, (k0_pay1 (F := Ideal) (ix2 b x) * ∑ i : Fin 512, k0_pay2 q (ix2 b i) *
      FloatOps.sitofp (F := Ideal) FTy.f32 (BitVec.setWidth 32
      (IntOp.andi (k0_pay6 (headWord d) (iota .tc S512x512 32 [0] iota_S512x512_d0_w32) 64#32 k0_pay3 k0_pay4 k0_pay5 (ix2 i x))
        (IntOp.cmpi CmpIPredicate.eq (k0_pay7 (iota .tc S512x512 32 [0] iota_S512x512_d0_w32) (ix2 i x)) (remW (BitVec.ofNat 32 x.val))))))
        * k (ix4 ⟨x.val / 64, by omega⟩ 0 ⟨x.val % 64, by omega⟩ j)) * scale := by
    pointwise [sPay, k0_pay11, k0_pay8, k0_pay9, k0_pay10]
    rfl
  rw [e]
  unfold score
  congr 1
  refine (Finset.sum_congr rfl fun x _ => ?_ : _ = ∑ x : Fin 512, (if x.val / 64 = b.val then (1 : EReal) else 0)
      * q (ix4 b 0 (headOf d) ⟨x.val % 64, by omega⟩) * k (ix4 ⟨x.val / 64, by omega⟩ 0 ⟨x.val % 64, by omega⟩ j)).trans ?_
  · rw [mask_at, ← query_at d q b x]
    exact congrArg (fun t => _ * t * _) (Finset.sum_congr rfl fun i _ => congrArg (k0_pay2 q (ix2 b i) * ·) (sel_at d i x))
  have h : ∀ x : Fin 512, (if x.val / 64 = b.val then (1 : EReal) else 0) * q (ix4 b 0 (headOf d) ⟨x.val % 64, by omega⟩)
      * k (ix4 ⟨x.val / 64, by omega⟩ 0 ⟨x.val % 64, by omega⟩ j)
      = if x.val / 64 = b.val then q (ix4 b 0 (headOf d) ⟨x.val % 64, by omega⟩) * k (ix4 ⟨x.val / 64, by omega⟩ 0 ⟨x.val % 64, by omega⟩ j) else 0 := fun x => by
    split_ifs
    · rw [one_mul]
    · rw [zero_mul, zero_mul]
  refine (Finset.sum_congr rfl fun x _ => h x).trans ?_
  rw [sum_block b fun x => q (ix4 b 0 (headOf d) ⟨x.val % 64, by omega⟩) * k (ix4 ⟨x.val / 64, by omega⟩ 0 ⟨x.val % 64, by omega⟩ j)]
  refine Finset.sum_congr rfl fun a _ => ?_
  have h1 : (⟨(cell b a).val / 64, by omega⟩ : Fin 8) = b := Fin.ext (by show (b.val * 64 + a.val) / 64 = _; omega)
  have h2 : (⟨(cell b a).val % 64, by omega⟩ : Fin 64) = a := Fin.ext (by show (b.val * 64 + a.val) % 64 = _; omega)
  rw [h1, h2]

/-! ## The partial result -/

/-- A device's largest score. -/
theorem part_mx (d : Dev nD) (q : Vec Ideal S8x1x8x64 .bf16) (k v : Vec Ideal S8x1x64x512 .bf16) (b : Fin 8) :
    (partOf d q k v).mx (ix2 b 0) = Softmax.top (score d q k b) := by
  show mPay d q k (ix2 b 0) = _
  have e : mPay d q k (ix2 b 0) = Finset.univ.fold max (Ideal.ofBits .f32 0xFF800000#32) (fun x : Fin 512 => sPay d q k (ix2 b x)) := by
    unfold mPay
    pointwise [k0_pay16, k0_pay12]
  rw [e]
  simp only [sPay_at]
  have h : Ideal.ofBits .f32 0xFF800000#32 = ⊥ := by simp [Ideal.ofBits, Ideal.ieee]
  rw [h]
  rfl

/-- The exponentials as the kernel computes them. -/
abbrev ePay (d : Dev nD) (q : Vec Ideal S8x1x8x64 .bf16) (k : Vec Ideal S8x1x64x512 .bf16) : FVec Ideal S8x512 .f32 :=
  k0_pay13 k0_pay1 (k0_pay2 q)
    (k0_pay6 (headWord d) (iota .tc S512x512 32 [0] iota_S512x512_d0_w32) 64#32 k0_pay3 k0_pay4 k0_pay5)
    (k0_pay7 (iota .tc S512x512 32 [0] iota_S512x512_d0_w32)) div64
    (k0_pay8 (iota .tc S512x512 32 [1] iota_S512x512_d1_w32)) (k0_pay9 (iota .tc S512x512 32 [1] iota_S512x512_d1_w32))
    (k0_pay10 (iota .tc S512x512 32 [1] iota_S512x512_d1_w32))
    (Scalar.cmpi .slt div64 0#32) k

theorem ePay_at (d : Dev nD) (q : Vec Ideal S8x1x8x64 .bf16) (k : Vec Ideal S8x1x64x512 .bf16) (b : Fin 8) (j : Fin 512) :
    ePay d q k (ix2 b j) = Softmax.weight (score d q k b) j := by
  have e : ePay d q k (ix2 b j) = Ideal.exp (sPay d q k (ix2 b j) - mPay d q k (ix2 b 0)) := by
    pointwise [ePay, mPay, k0_pay13, k0_pay16]
  have hm := part_mx d q k (fun _ => (0 : EReal)) b
  rw [e, sPay_at]
  exact congrArg (fun t => Ideal.exp (score d q k b j - t)) hm

/-- The sum of a device's exponentials. -/
theorem part_l (d : Dev nD) (q : Vec Ideal S8x1x8x64 .bf16) (k v : Vec Ideal S8x1x64x512 .bf16) (b : Fin 8) :
    (partOf d q k v).l (ix2 b 0) = Softmax.total (score d q k b) := by
  show lPay d q k (ix2 b 0) = _
  have e : lPay d q k (ix2 b 0) = ∑ x : Fin 512, ePay d q k (ix2 b x) := by
    unfold lPay
    pointwise [k0_pay17, k0_pay14]
  rw [e]
  simp only [ePay_at]
  rfl

/-- A device's values, weighted. -/
theorem part_o (d : Dev nD) (q : Vec Ideal S8x1x8x64 .bf16) (k v : Vec Ideal S8x1x64x512 .bf16) (b : Fin 8) (a : Fin 64) :
    (partOf d q k v).o (ix2 b a) = Softmax.wsum (score d q k b) fun j => v (ix4 b 0 a j) := by
  show oPay d q k v (ix2 b a) = _
  have e : oPay d q k v (ix2 b a) = ∑ x : Fin 8, (∑ j : Fin 512, ePay d q k (ix2 b j) * v (ix4 x 0 a j)) * k0_pay1 (F := Ideal) (ix2 b (cell x a)) := by
    unfold oPay
    pointwise [k0_pay15]
    rfl
  rw [e]
  simp only [ePay_at, mask_at]
  rw [Finset.sum_eq_single b]
  · rw [if_pos (by show (b.val * 64 + a.val) / 64 = _; omega), mul_one]; rfl
  · intro x _ hx
    rw [if_neg, mul_zero]
    show ¬ (x.val * 64 + a.val) / 64 = b.val
    have : x.val ≠ b.val := fun h => hx (Fin.ext h)
    omega
  · exact fun h => absurd (Finset.mem_univ b) h

end Cert.KernelIdeal.Flash
-- ==== Proof.RefIdeal.lean ====
module

public import proofs.«01_k».proof.Proof.Gen.ReferenceIdeal.Run
public import proofs.«01_k».proof.Proof.Softmax
public import Idealize.ShloMosaic.Lib.ValueIdxCoords
public import Idealize.ShloMosaic.Lib.Pipeline.ValueKit

/-! # What the reference computes

The reference's result at batch `b`, head `h` and column `d` is the attention of one row: the scores of the
1024 keys of that batch and head, and the values of that column. -/

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen

/-- The reference's scores: query times key, scaled. -/
def scores (Q : FVec Ideal S8x1x8x64 .bf16) (K : FVec Ideal S8x1024x8x64 .bf16) : FVec Ideal S8x8x1x1024 .f32 :=
  mulf (Host.dotGeneral dot_S8x1x8x64_S8x1024x8x64_S8x8x1x1024_3_3_1_1_02_02 none (extf .f32 Q bitsLt_bf16_f32) (extf .f32 K bitsLt_bf16_f32))
    (broadcastInDim S8x8x1x1024 ![] bcast_S_S8x8x1x1024 (constant S_ .f32 0x3E000000#32))

/-- A row's largest entry, at every entry of the row. -/
def tops (S : FVec Ideal S8x8x1x1024 .f32) : FVec Ideal S8x8x1x1024 .f32 :=
  broadcastInDim S8x8x1x1024 ![0, 1, 2, 3] bcast_S8x8x1x1_S8x8x1x1024_0_1_2_3 (broadcastInDim S8x8x1x1 ![0, 1, 2] bcast_S8x8x1_S8x8x1x1_0_1_2
    (Host.reduce FloatOps.maximumf S (constant S_ .f32 0xFF800000#32) reducesTo_S8x8x1x1024_S8x8x1_d3 h_S_))

/-- A row's sum, at every entry of the row. -/
def sums (P : FVec Ideal S8x8x1x1024 .f32) : FVec Ideal S8x8x1x1024 .f32 :=
  broadcastInDim S8x8x1x1024 ![0, 1, 2, 3] bcast_S8x8x1x1_S8x8x1x1024_0_1_2_3 (broadcastInDim S8x8x1x1 ![0, 1, 2] bcast_S8x8x1_S8x8x1x1_0_1_2
    (Host.reduceAdd P (constant S_ .f32 0x00000000#32) reducesTo_S8x8x1x1024_S8x8x1_d3 h_S_))

/-- The values weighted by `P`. -/
def weigh (V : FVec Ideal S8x1024x8x64 .bf16) (P : FVec Ideal S8x8x1x1024 .f32) : FVec Ideal S8x1x8x64 .f32 :=
  transpose S8x1x8x64 [0, 3, 1, 2] (Host.dotGeneral dot_S8x1024x8x64_S8x8x1x1024_S8x8x64x1_1_3_3_2_02_01 none (extf .f32 V bitsLt_bf16_f32) P)
    transposes_S8x8x64x1_S8x1x8x64_0_3_1_2

/-- The exponentials of the scores, each less its row's largest. -/
def expos (S : FVec Ideal S8x8x1x1024 .f32) : FVec Ideal S8x8x1x1024 .f32 := Host.exp (subf S (tops S))

/-- The reference's result. -/
def result (Q : FVec Ideal S8x1x8x64 .bf16) (K V : FVec Ideal S8x1024x8x64 .bf16) : FVec Ideal S8x1x8x64 .f32 :=
  weigh V (Host.divf (expos (scores Q K)) (sums (expos (scores Q K))))

/-- The scale of the scores, one over the square root of 64. -/
def scale : EReal := Ideal.ofBits .f32 0x3E000000#32

/-- The score of key `k` at batch `b` and head `h`. -/
def score (Q : FVec Ideal S8x1x8x64 .bf16) (K : FVec Ideal S8x1024x8x64 .bf16) (b h : Fin 8) (k : Fin 1024) : EReal :=
  (∑ d : Fin 64, Q (ix4 b 0 h d) * K (ix4 b k h d)) * scale

theorem scores_at (Q : FVec Ideal S8x1x8x64 .bf16) (K : FVec Ideal S8x1024x8x64 .bf16) (b h : Fin 8) (k : Fin 1024) :
    scores Q K (ix4 b h 0 k) = score Q K b h k := by
  pointwise [scores]; rfl

/-- The least 32-bit float reads as the least extended real. -/
theorem ofBits_ninf : Ideal.ofBits .f32 0xFF800000#32 = ⊥ := by
  simp [Ideal.ofBits, Ideal.ieee]

/-- The scale is one eighth. -/
theorem scale_eq : scale = ((1 / 8 : ℝ) : EReal) := by
  unfold scale
  simp [Ideal.ofBits, Ideal.ieee, -EReal.coe_mul]
  norm_num

theorem tops_at (S : FVec Ideal S8x8x1x1024 .f32) (b h : Fin 8) (k : Fin 1024) :
    tops S (ix4 b h 0 k) = Softmax.top fun k' : Fin 1024 => S (ix4 b h 0 k') := by
  pointwise [tops]; rw [ofBits_ninf]; rfl

theorem sums_at (P : FVec Ideal S8x8x1x1024 .f32) (b h : Fin 8) (k : Fin 1024) :
    sums P (ix4 b h 0 k) = ∑ k' : Fin 1024, P (ix4 b h 0 k') := by
  pointwise [sums]

theorem weigh_at (V : FVec Ideal S8x1024x8x64 .bf16) (P : FVec Ideal S8x8x1x1024 .f32) (b h : Fin 8) (d : Fin 64) :
    weigh V P (ix4 b 0 h d) = ∑ k : Fin 1024, V (ix4 b k h d) * P (ix4 b h 0 k) := by
  pointwise [weigh]

theorem expos_at (S : FVec Ideal S8x8x1x1024 .f32) (b h : Fin 8) (k : Fin 1024) :
    expos S (ix4 b h 0 k) = Softmax.weight (fun k' : Fin 1024 => S (ix4 b h 0 k')) k := by
  have e : expos S (ix4 b h 0 k) = Ideal.exp (S (ix4 b h 0 k) - tops S (ix4 b h 0 k)) := by pointwise [expos]
  rw [e, tops_at]; rfl

/-- The reference's result, entry by entry: one row's attention. -/
theorem result_at (Q : FVec Ideal S8x1x8x64 .bf16) (K V : FVec Ideal S8x1024x8x64 .bf16) (b h : Fin 8) (d : Fin 64) :
    result Q K V (ix4 b 0 h d) = Softmax.attend (score Q K b h) fun k => V (ix4 b k h d) := by
  unfold result
  rw [weigh_at]
  unfold Softmax.attend Softmax.total
  refine Finset.sum_congr rfl fun k _ => congrArg (V (ix4 b k h d) * ·) ?_
  have e : Host.divf (expos (scores Q K)) (sums (expos (scores Q K))) (ix4 b h 0 k)
      = Ideal.div (expos (scores Q K) (ix4 b h 0 k)) (sums (expos (scores Q K)) (ix4 b h 0 k)) := rfl
  have es : (fun k' : Fin 1024 => scores Q K (ix4 b h 0 k')) = score Q K b h := funext fun k' => scores_at Q K b h k'
  rw [e, sums_at, expos_at, es]
  exact congrArg _ (Finset.sum_congr rfl fun k' _ => by rw [expos_at, es])

/-- The reference ends with its result at `result` of its arguments, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Cert.ReferenceIdeal.Attn
-- ==== Proof.Equation.lean ====
module

public import proofs.«01_k».proof.Proof.PartIdeal
public import proofs.«01_k».proof.Proof.RefIdeal
public import Idealize.ShloMosaic.Lib.Layout

/-! # The kernel's result is the reference's

The sixteen devices hold the two halves of the keys and of the values; devices `h` and `8 + h` hold head `h`'s
partial results of the first and of the second half. Put together they are the head's attention over all keys,
if every score is a real number. -/

@[expose] public section

set_option maxRecDepth 16384

noncomputable section

namespace Cert.KernelIdeal.Flash

open Idealize.ShloMosaic Idealize.ShloMosaic.TcCoe Idealize.SL.Sem
open Cert.KernelIdeal Cert.KernelIdeal.Gen
open Cert.ReferenceIdeal (Attn.score Attn.result)

/-- The keys, or the values, of all devices. -/
abbrev S8x1024x8x64 : Shape := ⟨4, ![8, 1024, 8, 64]⟩

/-- Device `c`'s half of the keys, or of the values. -/
abbrev half (c : Dev nD) (X : FVec Ideal S8x1024x8x64 .bf16) : FVec Ideal S8x512x8x64 .bf16 :=
  Layout.blockN ⟨4, ![8, 512, 8, 64]⟩ ⟨4, ![8, 1024, 8, 64]⟩ (Layout.meshBlock [2, 2, 4] ![[], [0], [], []] c) X

theorem block_val : ∀ (c : Dev nD) (a : Fin 4),
    (Layout.meshLin [2, 2, 4] c.val ((![[], [0], [], []] : Fin 4 → List Nat) a)) = if a = 1 then c.val / 8 else 0 := by
  decide +kernel

theorem zero_block (n x : ℕ) : 0 * n + x = x := by omega

/-- A device's half at an index. -/
theorem half_at (c : Dev nD) (X : FVec Ideal S8x1024x8x64 .bf16) (b : Fin 8) (k : Fin 512) (h : Fin 8) (d : Fin 64) :
    half c X (ix4 b k h d) = X (ix4 b ⟨c.val / 8 * 512 + k.val, by have := c.isLt; change c.val < 16 at this; omega⟩ h d) := by
  refine congrArg X (funext fun a => Fin.ext ?_)
  rw [Layout.TilesN.idx_val]
  match a with
  | 0 => exact (congrArg (· * 8 + b.val) (block_val c 0)).trans (zero_block _ _)
  | 1 => exact congrArg (· * 512 + k.val) (block_val c 1)
  | 2 => exact (congrArg (· * 8 + h.val) (block_val c 2)).trans (zero_block _ _)
  | 3 => exact (congrArg (· * 64 + d.val) (block_val c 3)).trans (zero_block _ _)

theorem half_lower (h' : Fin 8) (X : FVec Ideal S8x1024x8x64 .bf16) (b : Fin 8) (k : Fin 512) (h : Fin 8) (d : Fin 64) :
    half (lower h') X (ix4 b k h d) = X (ix4 b (Fin.castAdd 512 k) h d) := by
  rw [half_at]
  refine congrArg (fun j => X (ix4 b j h d)) (Fin.ext ?_)
  show h'.val / 8 * 512 + k.val = k.val
  omega

theorem half_upper (h' : Fin 8) (X : FVec Ideal S8x1024x8x64 .bf16) (b : Fin 8) (k : Fin 512) (h : Fin 8) (d : Fin 64) :
    half (upper h') X (ix4 b k h d) = X (ix4 b (Fin.natAdd 512 k) h d) := by
  rw [half_at]
  refine congrArg (fun j => X (ix4 b j h d)) (Fin.ext ?_)
  show (8 + h'.val) / 8 * 512 + k.val = 512 + k.val
  omega

theorem head_lower : ∀ h : Fin 8, headOf (lower h) = h := by decide +kernel
theorem head_upper : ∀ h : Fin 8, headOf (upper h) = h := by decide +kernel

/-- Two partial results combined, at an index. -/
theorem merged_at (p p' : Part Ideal) (b : Fin 8) (d : Fin 64) :
    merged p p' (ix4 b 0 0 d) = Softmax.join (p.o (ix2 b d)) (p.mx (ix2 b 0)) (p.l (ix2 b 0)) (p'.o (ix2 b d)) (p'.mx (ix2 b 0)) (p'.l (ix2 b 0)) := by
  pointwise [merged]
  rfl

/-! ## Real scores -/

/-- Scores of real queries and keys are real. -/
theorem score_real (Q : FVec Ideal S8x1x8x64 .bf16) (K : FVec Ideal S8x1024x8x64 .bf16) (hQ : ∀ i, ∃ x : ℝ, Q i = (x : EReal))
    (hK : ∀ i, ∃ x : ℝ, K i = (x : EReal)) (b h : Fin 8) (k : Fin 1024) : ∃ x : ℝ, Attn.score Q K b h k = (x : EReal) := by
  choose q hq using hQ
  choose u hu using hK
  refine ⟨(∑ d : Fin 64, q (ix4 b 0 h d) * u (ix4 b k h d)) * (1 / 8), ?_⟩
  unfold Attn.score
  rw [Cert.ReferenceIdeal.Attn.scale_eq, EReal.coe_mul, Softmax.coe_sum]
  refine congrArg (· * _) (Finset.sum_congr rfl fun d _ => ?_)
  rw [hq, hu, EReal.coe_mul]

variable (m : (ℓ : Loc nD τ sig) → Buf (Elt Ideal) ℓ)
variable (Q : FVec Ideal S8x1x8x64 .bf16) (K V : FVec Ideal S8x1024x8x64 .bf16)

/-- A device's scores, its head taken out of the query and its half of the keys. -/
theorem score_half (c : Dev nD) (hQ : m ((c.tc : Thread nD τ).loc main_arg0) = Q) (hK : m ((c.tc : Thread nD τ).loc main_arg1) = half c K)
    (b : Fin 8) (j : Fin 512) (J : Fin 1024) (hJ : ∀ h d, half c K (ix4 b j h d) = K (ix4 b J h d)) :
    score c (qOf m c) (kOf m c) b j = Attn.score Q K b (headOf c) J := by
  unfold score Attn.score
  refine congrArg (· * _) (Finset.sum_congr rfl fun d _ => ?_)
  rw [qOf_eq, kOf_eq, sliced_at, hQ, hK, hJ]

/-- The result the kernel leaves is the reference's, if every query and key is a real number. -/
theorem out_eq (hq : ∀ c : Dev nD, m ((c.tc : Thread nD τ).loc main_arg0) = Q) (hk : ∀ c : Dev nD, m ((c.tc : Thread nD τ).loc main_arg1) = half c K)
    (hv : ∀ c : Dev nD, m ((c.tc : Thread nD τ).loc main_arg2) = half c V)
    (hQ : ∀ i, ∃ x : ℝ, Q i = (x : EReal)) (hK : ∀ i, ∃ x : ℝ, K i = (x : EReal)) :
    outOf (psOf m) = Attn.result Q K V := by
  have key : ∀ (b h : Fin 8) (d : Fin 64), merged (psOf m (lower h)) (psOf m (upper h)) (ix4 b 0 0 d) = Attn.result Q K V (ix4 b 0 h d) := by
    intro b h d
    obtain ⟨s, hs⟩ : ∃ s : Fin (512 + 512) → ℝ, ∀ k, Attn.score Q K b h k = (s k : EReal) :=
      ⟨fun k => (score_real Q K hQ hK b h k).choose, fun k => (score_real Q K hQ hK b h k).choose_spec⟩
    have hsl : score (lower h) (qOf m (lower h)) (kOf m (lower h)) b = fun k => (s (Fin.castAdd 512 k) : EReal) := funext fun k => by
      rw [score_half m Q K (lower h) (hq _) (hk _) b k (Fin.castAdd 512 k) fun h' d => half_lower h K b k h' d, head_lower]
      exact hs _
    have hsu : score (upper h) (qOf m (upper h)) (kOf m (upper h)) b = fun k => (s (Fin.natAdd 512 k) : EReal) := funext fun k => by
      rw [score_half m Q K (upper h) (hq _) (hk _) b k (Fin.natAdd 512 k) fun h' d => half_upper h K b k h' d, head_upper]
      exact hs _
    have hvl : (fun j => vOf m (lower h) (ix4 b 0 d j)) = fun j => V (ix4 b (Fin.castAdd 512 j) h d) := funext fun j => by
      rw [vOf_eq, sliced_at, hv, half_lower, head_lower]
    have hvu : (fun j => vOf m (upper h) (ix4 b 0 d j)) = fun j => V (ix4 b (Fin.natAdd 512 j) h d) := funext fun j => by
      rw [vOf_eq, sliced_at, hv, half_upper, head_upper]
    rw [merged_at, Cert.ReferenceIdeal.Attn.result_at]
    unfold psOf
    rw [part_o, part_mx, part_l, part_o, part_mx, part_l, hsl, hsu, hvl, hvu]
    refine (Softmax.join_eq (n := 512) s fun k => V (ix4 b k h d)).trans ?_
    exact congrArg (fun t => Softmax.attend t fun k => V (ix4 b k h d)) (funext fun k => (hs k).symm)
  funext x
  have h1 : (show Fin 1 from x 1) = 0 := Subsingleton.elim (α := Fin 1) _ _
  have hx : x = ix4 (x 0) 0 (x 2) (x 3) := by
    refine (ValueIdx.eq_ix4 (n0 := 8) (n1 := 1) (n2 := 8) (n3 := 64) x).trans ?_
    exact congrArg (fun t : Fin 1 => ix4 (x 0) t (x 2) (x 3)) h1
  exact (key (x 0) (x 2) (x 3)).trans (congrArg (Attn.result Q K V) hx.symm)

end Cert.KernelIdeal.Flash
-- ==== Proof.Finite.lean ====
module

public import proofs.«01_k».proof.Defs
public import proofs.«01_k».proof.Proof.Equation

/-! # What the precondition says

Every query and every key of all devices is a real number. -/

@[expose] public section

set_option maxRecDepth 16384

noncomputable section

namespace Cert.KernelIdeal.Flash

open Idealize.ShloMosaic Idealize.ShloMosaic.TcCoe Idealize.SL.Sem
open Cert.KernelIdeal Cert.KernelIdeal.Gen

/-- The side conditions of the precondition's operations, of one device's blocks. -/
theorem pre_facts : Cert.Pre_finite_scores_KernelIdeal.Facts := ⟨by decide, by decide, by decide⟩
/-- The side conditions of the precondition's operations, of the whole arrays. -/
theorem pre_facts_whole : Cert.Pre_finite_scores_ReferenceIdeal.Facts := ⟨by decide, by decide, by decide⟩

/-- The largest 32-bit float reads as the largest extended real. -/
theorem ofBits_pinf : Ideal.ofBits .f32 0x7F800000#32 = ⊤ := by
  simp [Ideal.ofBits, Ideal.ieee]

/-- An extended real whose absolute value is below the largest is a real number. -/
theorem real_of_abs_lt (x : EReal) (h : FloatOps.cmpf (F := Ideal) (φ := .f32) .olt (max x (-x)) (Ideal.ofBits .f32 0x7F800000#32) = 1#1) :
    ∃ r : ℝ, x = (r : EReal) := by
  rw [ofBits_pinf] at h
  have hlt : max x (-x) < ⊤ := by
    by_contra hn
    have : FloatOps.cmpf (F := Ideal) (φ := .f32) .olt (max x (-x)) (⊤ : EReal) = 0#1 := by
      show BitVec.ofBool (decide (max x (-x) < ⊤)) = 0#1
      rw [decide_eq_false hn]; rfl
    rw [this] at h
    exact absurd h (by decide)
  induction x with
  | bot => simp at hlt
  | top => simp at hlt
  | coe r => exact ⟨r, rfl⟩

variable [hP : Cert.Pre_finite_scores_KernelIdeal.Facts]

/-- Every query of the device is a real number, if the precondition holds of its blocks. -/
theorem real_query (Q : FVec Ideal S8x1x8x64 .bf16) (K V : FVec Ideal S8x512x8x64 .bf16)
    (h : (Cert.Pre_finite_scores_KernelIdeal.fn Q K V).1 = fun _ => 1#1) (i : S8x1x8x64.Idx) : ∃ r : ℝ, Q i = (r : EReal) :=
  real_of_abs_lt (Q i) (congrFun h i)

/-- So is every key of its half. -/
theorem real_key (Q : FVec Ideal S8x1x8x64 .bf16) (K V : FVec Ideal S8x512x8x64 .bf16)
    (h : (Cert.Pre_finite_scores_KernelIdeal.fn Q K V).2 = fun _ => 1#1) (i : S8x512x8x64.Idx) : ∃ r : ℝ, K i = (r : EReal) :=
  real_of_abs_lt (K i) (congrFun h i)

/-- If every key of both halves is a real number, every key is. -/
theorem real_of_halves (K : FVec Ideal S8x1024x8x64 .bf16) (h : ∀ (c : Dev nD) i, ∃ r : ℝ, half c K i = (r : EReal)) (i : S8x1024x8x64.Idx) :
    ∃ r : ℝ, K i = (r : EReal) := by
  have key : ∀ (b : Fin 8) (k : Fin (512 + 512)) (a : Fin 8) (d : Fin 64), ∃ r : ℝ, K (ix4 b k a d) = (r : EReal) := by
    intro b k a d
    induction k using Fin.addCases with
    | left k => rw [← half_lower 0 K b k a d]; exact h _ _
    | right k => rw [← half_upper 0 K b k a d]; exact h _ _
  rw [ValueIdx.eq_ix4 (n0 := 8) (n1 := 1024) (n2 := 8) (n3 := 64) i]
  exact key (i 0) (i 1) (i 2) (i 3)

end Cert.KernelIdeal.Flash
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Finite
public import Idealize.ShloMosaic.Adequacy
public import Idealize.ShloMosaic.Init

@[expose] public section

noncomputable section

namespace Cert.Proof

open Idealize.ShloMosaic Idealize.SL.Sem

/-- The two printings of the kernel's body are one program. -/
theorem same_body : (Cert.Kernel.defs₀ (F := Bits)) = Cert.KernelIdeal.defs₀ := by
  unfold Cert.Kernel.defs₀ Cert.KernelIdeal.defs₀
  refine congrArg _ ?_
  funext ℓ x
  match ℓ, x with
  | 0, (t, s) => rfl

/-- So are the two tables of bodies. -/
theorem same_defs : (Cert.Kernel.defs (F := Bits)) = Cert.KernelIdeal.defs :=
  congrArg (Pipeline.defs Cert.Kernel.pcfgs) same_body

/-- The kernel, its floats machine words, ends with its arguments as launched and every counter at zero. -/
theorem frame_kernel : Cert.quiescent_Kernel := fun m ρ _ => by
  rw [same_defs]
  exact (θ_run Cert.KernelIdeal.defs _ _).mono (fun _ h => ⟨fun c => (h.1 c).1, h.2⟩) (Cert.KernelIdeal.Flash.run_main (F := Bits) m ρ)

/-- The kernel, its floats extended reals, ends with its arguments as launched and every counter at zero. -/
theorem frame_ideal : Cert.quiescent_KernelIdeal := fun m ρ _ =>
  (θ_run Cert.KernelIdeal.defs _ _).mono (fun _ h => ⟨fun c => (h.1 c).1, h.2⟩) (Cert.KernelIdeal.Flash.run_main (F := Ideal) m ρ)

/-- The reference ends with its arguments as launched; it has no counter. -/
theorem frame_reference : Cert.quiescent_ReferenceIdeal := fun m ρ _ =>
  (θ_run Cert.ReferenceIdeal.defs _ _).mono
    (fun r h => ⟨fun c => (h c).2, funext fun g => by
      rcases g with ⟨t, sm⟩
      cases sm with
      | reg s => exact s.elim0
      | dma s => exact s.elim0⟩)
    (Cert.ReferenceIdeal.Value.run (F := Ideal) m ρ)

/-- On finite queries and keys every device of the kernel ends with the reference's result. -/
theorem algebraic [hP : Cert.Pre_finite_scores_KernelIdeal.Facts] : Cert.algebraic_KernelIdeal_ReferenceIdeal_pre_finite_scores_KernelIdeal := by
  intro m ρ m' ρ' pre args
  have e := Cert.KernelIdeal.Flash.out_eq m _ _ _ (fun c => (args c).1) (fun c => (args c).2.1) (fun c => (args c).2.2)
    (fun i => by
      have h := Cert.KernelIdeal.Flash.real_query _ _ _ (pre 0).1 i
      rwa [(args 0).1] at h)
    (Cert.KernelIdeal.Flash.real_of_halves _ fun c i => by
      have h := Cert.KernelIdeal.Flash.real_key _ _ _ (pre c).2 i
      rwa [(args c).2.1] at h)
  refine ⟨_, ?_, (θ_run Cert.ReferenceIdeal.defs _ _).mono (fun _ h => h 0) (Cert.ReferenceIdeal.Attn.run m' ρ')⟩
  refine (θ_run Cert.KernelIdeal.defs _ _).mono (fun _ h c => ⟨?_, (h.1 c).1⟩) (Cert.KernelIdeal.Flash.run_main (F := Ideal) m ρ)
  exact ((h.1 c).2.trans (Cert.KernelIdeal.Flash.arrAt_out m c)).trans e

theorem claim : Cert.Claim :=
  ⟨Cert.Kernel.Gen.facts, Cert.KernelIdeal.Gen.facts, Cert.ReferenceIdeal.Gen.facts, Cert.KernelIdeal.Flash.pre_facts, Cert.KernelIdeal.Flash.pre_facts_whole,
    frame_kernel, frame_ideal, fun m ρ _ => frame_ideal m ρ trivial, frame_reference, fun m ρ _ => frame_reference m ρ trivial, trivial,
    algebraic (hP := Cert.KernelIdeal.Flash.pre_facts)⟩

end Cert.Proof

end
